-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2048x5632 : Shape := ⟨3, ![12, 2048, 5632]⟩
abbrev S2048 : Shape := ⟨1, ![2048]⟩
abbrev S256x256 : Shape := ⟨2, ![256, 256]⟩
abbrev S16x8x16 : Shape := ⟨3, ![16, 8, 16]⟩
abbrev S8x16x16 : Shape := ⟨3, ![8, 16, 16]⟩
abbrev S8x1x256 : Shape := ⟨3, ![8, 1, 256]⟩
abbrev S1x256x256 : Shape := ⟨3, ![1, 256, 256]⟩
abbrev S8x256x256 : Shape := ⟨3, ![8, 256, 256]⟩
abbrev S12x16x8x16x5632 : Shape := ⟨5, ![12, 16, 8, 16, 5632]⟩
abbrev S12x5632x1024 : Shape := ⟨3, ![12, 5632, 1024]⟩
abbrev S12x16x5632 : Shape := ⟨3, ![12, 16, 5632]⟩
abbrev S1x16x8x16x512 : Shape := ⟨5, ![1, 16, 8, 16, 512]⟩
abbrev S1x512x1024 : Shape := ⟨3, ![1, 512, 1024]⟩
abbrev S1x16x512 : Shape := ⟨3, ![1, 16, 512]⟩
abbrev S1x16x1x16x256 : Shape := ⟨5, ![1, 16, 1, 16, 256]⟩
abbrev S16x16x256 : Shape := ⟨3, ![16, 16, 256]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S128x128 : Shape := ⟨2, ![128, 128]⟩
abbrev S1x128x128 : Shape := ⟨3, ![1, 128, 128]⟩
abbrev S12x5632x16 : Shape := ⟨3, ![12, 5632, 16]⟩

abbrev nBuf : Space → Nat
  | .hbm => 15
  | .vmem => 8
  | .smem => 0
  | _ => 0

abbrev bufTy : (tb : Table) → Fin (tcTables nBuf tb) → BufTy
  | .hbm, ⟨0, _⟩ => ⟨S12x2048x5632, .bf16⟩
  | .hbm, ⟨1, _⟩ => ⟨S2048, .f32⟩
  | .hbm, ⟨2, _⟩ => ⟨S256x256, .f32⟩
  | .hbm, ⟨3, _⟩ => ⟨S16x8x16, .f32⟩
  | .hbm, ⟨4, _⟩ => ⟨S8x16x16, .f32⟩
  | .hbm, ⟨5, _⟩ => ⟨S8x1x256, .f32⟩
  | .hbm, ⟨6, _⟩ => ⟨S1x256x256, .f32⟩
  | .hbm, ⟨7, _⟩ => ⟨S8x256x256, .f32⟩
  | .hbm, ⟨8, _⟩ => ⟨S8x256x256, .f32⟩
  | .hbm, ⟨9, _⟩ => ⟨S8x256x256, .f32⟩
  | .hbm, ⟨10, _⟩ => ⟨S8x256x256, .bf16⟩
  | .hbm, ⟨11, _⟩ => ⟨S12x16x8x16x5632, .bf16⟩
  | .hbm, ⟨12, _⟩ => ⟨S12x5632x1024, .i8⟩
  | .hbm, ⟨13, _⟩ => ⟨S12x16x5632, .f32⟩
  | .hbm, ⟨14, _⟩ => ⟨S12x5632x16, .f32⟩
  | .local _ .vmem, ⟨0, _⟩ => ⟨S8x256x256, .bf16⟩
  | .local _ .vmem, ⟨1, _⟩ => ⟨S1x16x8x16x512, .bf16⟩
  | .local _ .vmem, ⟨2, _⟩ => ⟨S1x16x8x16x512, .bf16⟩
  | .local _ .vmem, ⟨3, _⟩ => ⟨S1x512x1024, .i8⟩
  | .local _ .vmem, ⟨4, _⟩ => ⟨S1x512x1024, .i8⟩
  | .local _ .vmem, ⟨5, _⟩ => ⟨S1x16x512, .f32⟩
  | .local _ .vmem, ⟨6, _⟩ => ⟨S1x16x512, .f32⟩
  | .local _ .vmem, ⟨7, _⟩ => ⟨S8x256x256, .f32⟩
  | _, _ => ⟨S12x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x8x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S12x2048x5632 : Shape := ⟨3, ![12, 2048, 5632]⟩
abbrev S2048 : Shape := ⟨1, ![2048]⟩
abbrev S1x2048x1 : Shape := ⟨3, ![1, 2048, 1]⟩
abbrev S12x1024x2x1x5632 : Shape := ⟨5, ![12, 1024, 2, 1, 5632]⟩
abbrev S12x1024x1x1x5632 : Shape := ⟨5, ![12, 1024, 1, 1, 5632]⟩
abbrev S12x1024x1x5632 : Shape := ⟨4, ![12, 1024, 1, 5632]⟩
abbrev S12x512x2x2x5632 : Shape := ⟨5, ![12, 512, 2, 2, 5632]⟩
abbrev S12x512x1x2x5632 : Shape := ⟨5, ![12, 512, 1, 2, 5632]⟩
abbrev S12x512x2x5632 : Shape := ⟨4, ![12, 512, 2, 5632]⟩
abbrev S12x256x2x4x5632 : Shape := ⟨5, ![12, 256, 2, 4, 5632]⟩
abbrev S12x256x1x4x5632 : Shape := ⟨5, ![12, 256, 1, 4, 5632]⟩
abbrev S12x256x4x5632 : Shape := ⟨4, ![12, 256, 4, 5632]⟩
abbrev S12x128x2x8x5632 : Shape := ⟨5, ![12, 128, 2, 8, 5632]⟩
abbrev S12x128x1x8x5632 : Shape := ⟨5, ![12, 128, 1, 8, 5632]⟩
abbrev S12x128x8x5632 : Shape := ⟨4, ![12, 128, 8, 5632]⟩
abbrev S12x64x2x16x5632 : Shape := ⟨5, ![12, 64, 2, 16, 5632]⟩
abbrev S12x64x1x16x5632 : Shape := ⟨5, ![12, 64, 1, 16, 5632]⟩
abbrev S12x64x16x5632 : Shape := ⟨4, ![12, 64, 16, 5632]⟩
abbrev S12x32x2x32x5632 : Shape := ⟨5, ![12, 32, 2, 32, 5632]⟩
abbrev S12x32x1x32x5632 : Shape := ⟨5, ![12, 32, 1, 32, 5632]⟩
abbrev S12x32x32x5632 : Shape := ⟨4, ![12, 32, 32, 5632]⟩
abbrev S12x16x2x64x5632 : Shape := ⟨5, ![12, 16, 2, 64, 5632]⟩
abbrev S12x16x1x64x5632 : Shape := ⟨5, ![12, 16, 1, 64, 5632]⟩
abbrev S12x16x64x5632 : Shape := ⟨4, ![12, 16, 64, 5632]⟩
abbrev S12x8x2x128x5632 : Shape := ⟨5, ![12, 8, 2, 128, 5632]⟩
abbrev S12x8x1x128x5632 : Shape := ⟨5, ![12, 8, 1, 128, 5632]⟩
abbrev S12x8x128x5632 : Shape := ⟨4, ![12, 8, 128, 5632]⟩
abbrev S12x4x2x256x5632 : Shape := ⟨5, ![12, 4, 2, 256, 5632]⟩
abbrev S12x4x1x256x5632 : Shape := ⟨5, ![12, 4, 1, 256, 5632]⟩
abbrev S12x4x256x5632 : Shape := ⟨4, ![12, 4, 256, 5632]⟩
abbrev S12x2x2x512x5632 : Shape := ⟨5, ![12, 2, 2, 512, 5632]⟩
abbrev S12x2x1x512x5632 : Shape := ⟨5, ![12, 2, 1, 512, 5632]⟩
abbrev S12x2x512x5632 : Shape := ⟨4, ![12, 2, 512, 5632]⟩
abbrev S12x1x2x1024x5632 : Shape := ⟨5, ![12, 1, 2, 1024, 5632]⟩
abbrev S12x1x1x1024x5632 : Shape := ⟨5, ![12, 1, 1, 1024, 5632]⟩
abbrev S12x1x1024x5632 : Shape := ⟨4, ![12, 1, 1024, 5632]⟩
abbrev S_ : Shape := ⟨0, ![]⟩
abbrev S12x16x128x5632 : Shape := ⟨4, ![12, 16, 128, 5632]⟩
abbrev S12x16x5632 : Shape := ⟨3, ![12, 16, 5632]⟩
abbrev S12x16x1x5632 : Shape := ⟨4, ![12, 16, 1, 5632]⟩
abbrev S12x1024x2x5632 : Shape := ⟨4, ![12, 1024, 2, 5632]⟩
abbrev S12x1024x5632 : Shape := ⟨3, ![12, 1024, 5632]⟩
abbrev S12x5632x1024 : Shape := ⟨3, ![12, 5632, 1024]⟩
abbrev S12x5632x16 : Shape := ⟨3, ![12, 5632, 16]⟩

abbrev nBuf : Space → Nat
  | .hbm => 174
  | .vmem => 0
  | .smem => 0
  | _ => 0

abbrev hbmTy0_0 (i : Nat) : BufTy := match i % 128 with
  | 0 => ⟨S12x2048x5632, .bf16⟩
  | 1 => ⟨S2048, .f32⟩
  | 2 => ⟨S12x2048x5632, .f32⟩
  | 3 => ⟨S1x2048x1, .f32⟩
  | 4 => ⟨S12x2048x5632, .f32⟩
  | 5 => ⟨S12x2048x5632, .f32⟩
  | 6 => ⟨S12x1024x2x1x5632, .f32⟩
  | 7 => ⟨S12x1024x1x1x5632, .f32⟩
  | 8 => ⟨S12x1024x1x5632, .f32⟩
  | 9 => ⟨S12x1024x1x1x5632, .f32⟩
  | 10 => ⟨S12x1024x1x5632, .f32⟩
  | 11 => ⟨S12x1024x1x5632, .f32⟩
  | 12 => ⟨S12x1024x1x5632, .f32⟩
  | 13 => ⟨S12x1024x1x1x5632, .f32⟩
  | 14 => ⟨S12x1024x1x1x5632, .f32⟩
  | 15 => ⟨S12x1024x2x1x5632, .f32⟩
  | 16 => ⟨S12x2048x5632, .f32⟩
  | 17 => ⟨S12x512x2x2x5632, .f32⟩
  | 18 => ⟨S12x512x1x2x5632, .f32⟩
  | 19 => ⟨S12x512x2x5632, .f32⟩
  | 20 => ⟨S12x512x1x2x5632, .f32⟩
  | 21 => ⟨S12x512x2x5632, .f32⟩
  | 22 => ⟨S12x512x2x5632, .f32⟩
  | 23 => ⟨S12x512x2x5632, .f32⟩
  | 24 => ⟨S12x512x1x2x5632, .f32⟩
  | 25 => ⟨S12x512x1x2x5632, .f32⟩
  | 26 => ⟨S12x512x2x2x5632, .f32⟩
  | 27 => ⟨S12x2048x5632, .f32⟩
  | 28 => ⟨S12x256x2x4x5632, .f32⟩
  | 29 => ⟨S12x256x1x4x5632, .f32⟩
  | 30 => ⟨S12x256x4x5632, .f32⟩
  | 31 => ⟨S12x256x1x4x5632, .f32⟩
  | 32 => ⟨S12x256x4x5632, .f32⟩
  | 33 => ⟨S12x256x4x5632, .f32⟩
  | 34 => ⟨S12x256x4x5632, .f32⟩
  | 35 => ⟨S12x256x1x4x5632, .f32⟩
  | 36 => ⟨S12x256x1x4x5632, .f32⟩
  | 37 => ⟨S12x256x2x4x5632, .f32⟩
  | 38 => ⟨S12x2048x5632, .f32⟩
  | 39 => ⟨S12x128x2x8x5632, .f32⟩
  | 40 => ⟨S12x128x1x8x5632, .f32⟩
  | 41 => ⟨S12x128x8x5632, .f32⟩
  | 42 => ⟨S12x128x1x8x5632, .f32⟩
  | 43 => ⟨S12x128x8x5632, .f32⟩
  | 44 => ⟨S12x128x8x5632, .f32⟩
  | 45 => ⟨S12x128x8x5632, .f32⟩
  | 46 => ⟨S12x128x1x8x5632, .f32⟩
  | 47 => ⟨S12x128x1x8x5632, .f32⟩
  | 48 => ⟨S12x128x2x8x5632, .f32⟩
  | 49 => ⟨S12x2048x5632, .f32⟩
  | 50 => ⟨S12x64x2x16x5632, .f32⟩
  | 51 => ⟨S12x64x1x16x5632, .f32⟩
  | 52 => ⟨S12x64x16x5632, .f32⟩
  | 53 => ⟨S12x64x1x16x5632, .f32⟩
  | 54 => ⟨S12x64x16x5632, .f32⟩
  | 55 => ⟨S12x64x16x5632, .f32⟩
  | 56 => ⟨S12x64x16x5632, .f32⟩
  | 57 => ⟨S12x64x1x16x5632, .f32⟩
  | 58 => ⟨S12x64x1x16x5632, .f32⟩
  | 59 => ⟨S12x64x2x16x5632, .f32⟩
  | 60 => ⟨S12x2048x5632, .f32⟩
  | 61 => ⟨S12x32x2x32x5632, .f32⟩
  | 62 => ⟨S12x32x1x32x5632, .f32⟩
  | 63 => ⟨S12x32x32x5632, .f32⟩
  | 64 => ⟨S12x32x1x32x5632, .f32⟩
  | 65 => ⟨S12x32x32x5632, .f32⟩
  | 66 => ⟨S12x32x32x5632, .f32⟩
  | 67 => ⟨S12x32x32x5632, .f32⟩
  | 68 => ⟨S12x32x1x32x5632, .f32⟩
  | 69 => ⟨S12x32x1x32x5632, .f32⟩
  | 70 => ⟨S12x32x2x32x5632, .f32⟩
  | 71 => ⟨S12x2048x5632, .f32⟩
  | 72 => ⟨S12x16x2x64x5632, .f32⟩
  | 73 => ⟨S12x16x1x64x5632, .f32⟩
  | 74 => ⟨S12x16x64x5632, .f32⟩
  | 75 => ⟨S12x16x1x64x5632, .f32⟩
  | 76 => ⟨S12x16x64x5632, .f32⟩
  | 77 => ⟨S12x16x64x5632, .f32⟩
  | 78 => ⟨S12x16x64x5632, .f32⟩
  | 79 => ⟨S12x16x1x64x5632, .f32⟩
  | 80 => ⟨S12x16x1x64x5632, .f32⟩
  | 81 => ⟨S12x16x2x64x5632, .f32⟩
  | 82 => ⟨S12x2048x5632, .f32⟩
  | 83 => ⟨S12x8x2x128x5632, .f32⟩
  | 84 => ⟨S12x8x1x128x5632, .f32⟩
  | 85 => ⟨S12x8x128x5632, .f32⟩
  | 86 => ⟨S12x8x1x128x5632, .f32⟩
  | 87 => ⟨S12x8x128x5632, .f32⟩
  | 88 => ⟨S12x8x128x5632, .f32⟩
  | 89 => ⟨S12x8x128x5632, .f32⟩
  | 90 => ⟨S12x8x1x128x5632, .f32⟩
  | 91 => ⟨S12x8x1x128x5632, .f32⟩
  | 92 => ⟨S12x8x2x128x5632, .f32⟩
  | 93 => ⟨S12x2048x5632, .f32⟩
  | 94 => ⟨S12x4x2x256x5632, .f32⟩
  | 95 => ⟨S12x4x1x256x5632, .f32⟩
  | 96 => ⟨S12x4x256x5632, .f32⟩
  | 97 => ⟨S12x4x1x256x5632, .f32⟩
  | 98 => ⟨S12x4x256x5632, .f32⟩
  | 99 => ⟨S12x4x256x5632, .f32⟩
  | 100 => ⟨S12x4x256x5632, .f32⟩
  | 101 => ⟨S12x4x1x256x5632, .f32⟩
  | 102 => ⟨S12x4x1x256x5632, .f32⟩
  | 103 => ⟨S12x4x2x256x5632, .f32⟩
  | 104 => ⟨S12x2048x5632, .f32⟩
  | 105 => ⟨S12x2x2x512x5632, .f32⟩
  | 106 => ⟨S12x2x1x512x5632, .f32⟩
  | 107 => ⟨S12x2x512x5632, .f32⟩
  | 108 => ⟨S12x2x1x512x5632, .f32⟩
  | 109 => ⟨S12x2x512x5632, .f32⟩
  | 110 => ⟨S12x2x512x5632, .f32⟩
  | 111 => ⟨S12x2x512x5632, .f32⟩
  | 112 => ⟨S12x2x1x512x5632, .f32⟩
  | 113 => ⟨S12x2x1x512x5632, .f32⟩
  | 114 => ⟨S12x2x2x512x5632, .f32⟩
  | 115 => ⟨S12x2048x5632, .f32⟩
  | 116 => ⟨S12x1x2x1024x5632, .f32⟩
  | 117 => ⟨S12x1x1x1024x5632, .f32⟩
  | 118 => ⟨S12x1x1024x5632, .f32⟩
  | 119 => ⟨S12x1x1x1024x5632, .f32⟩
  | 120 => ⟨S12x1x1024x5632, .f32⟩
  | 121 => ⟨S12x1x1024x5632, .f32⟩
  | 122 => ⟨S12x1x1024x5632, .f32⟩
  | 123 => ⟨S12x1x1x1024x5632, .f32⟩
  | 124 => ⟨S12x1x1x1024x5632, .f32⟩
  | 125 => ⟨S12x1x2x1024x5632, .f32⟩
  | 126 => ⟨S12x2048x5632, .f32⟩
  | 127 => ⟨S_, .f32⟩
  | _ => ⟨S12x2048x5632, .bf16⟩

abbrev hbmTy0_1 (i : Nat) : BufTy := match i % 128 with
  | 0 => ⟨S12x2048x5632, .f32⟩
  | 1 => ⟨S12x2048x5632, .f32⟩
  | 2 => ⟨S12x16x128x5632, .f32⟩
  | 3 => ⟨S12x16x128x5632, .f32⟩
  | 4 => ⟨S_, .f32⟩
  | 5 => ⟨S12x16x5632, .f32⟩
  | 6 => ⟨S_, .f32⟩
  | 7 => ⟨S12x16x5632, .f32⟩
  | 8 => ⟨S12x16x5632, .i1⟩
  | 9 => ⟨S_, .f32⟩
  | 10 => ⟨S12x16x5632, .f32⟩
  | 11 => ⟨S12x16x5632, .f32⟩
  | 12 => ⟨S_, .f32⟩
  | 13 => ⟨S12x16x5632, .f32⟩
  | 14 => ⟨S12x16x5632, .f32⟩
  | 15 => ⟨S12x16x1x5632, .f32⟩
  | 16 => ⟨S12x16x128x5632, .f32⟩
  | 17 => ⟨S12x16x128x5632, .f32⟩
  | 18 => ⟨S12x16x128x5632, .f32⟩
  | 19 => ⟨S_, .f32⟩
  | 20 => ⟨S_, .f32⟩
  | 21 => ⟨S_, .f32⟩
  | 22 => ⟨S12x16x128x5632, .f32⟩
  | 23 => ⟨S12x16x128x5632, .f32⟩
  | 24 => ⟨S_, .f32⟩
  | 25 => ⟨S12x16x128x5632, .f32⟩
  | 26 => ⟨S12x16x128x5632, .f32⟩
  | 27 => ⟨S12x16x128x5632, .i32⟩
  | 28 => ⟨S12x16x128x5632, .i8⟩
  | 29 => ⟨S12x2048x5632, .i8⟩
  | 30 => ⟨S12x2048x5632, .i32⟩
  | 31 => ⟨S_, .i32⟩
  | 32 => ⟨S12x2048x5632, .i32⟩
  | 33 => ⟨S12x2048x5632, .i32⟩
  | 34 => ⟨S12x1024x2x5632, .i32⟩
  | 35 => ⟨S12x1024x1x5632, .i32⟩
  | 36 => ⟨S12x1024x5632, .i32⟩
  | 37 => ⟨S12x1024x1x5632, .i32⟩
  | 38 => ⟨S12x1024x5632, .i32⟩
  | 39 => ⟨S_, .i32⟩
  | 40 => ⟨S12x1024x5632, .i32⟩
  | 41 => ⟨S12x1024x5632, .i32⟩
  | 42 => ⟨S12x1024x5632, .i32⟩
  | 43 => ⟨S12x1024x5632, .i8⟩
  | 44 => ⟨S12x5632x1024, .i8⟩
  | 45 => ⟨S12x5632x16, .f32⟩
  | _ => ⟨S12x2048x5632, .bf16⟩

abbrev hbmTy (i : Nat) : BufTy := match i / 128 with
  | 0 => hbmTy0_0 i
  | 1 => hbmTy0_1 i
  | _ => ⟨S12x2048x5632, .bf16⟩

abbrev bufTy : (tb : Table) → Fin (tcTables nBuf tb) → BufTy
  | .hbm, ⟨i, _⟩ => hbmTy i
  | _, _ => ⟨S12x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_cst : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_cst_0 : Ref sig .tc := ⟨.hbm, 132, rfl⟩
abbrev main_v129 : Ref sig .tc := ⟨.hbm, 133, rfl⟩
abbrev main_cst_1 : Ref sig .tc := ⟨.hbm, 134, rfl⟩
abbrev main_v130 : Ref sig .tc := ⟨.hbm, 135, rfl⟩
abbrev main_v131 : Ref sig .tc := ⟨.hbm, 136, rfl⟩
abbrev main_cst_2 : Ref sig .tc := ⟨.hbm, 137, rfl⟩
abbrev main_v132 : Ref sig .tc := ⟨.hbm, 138, rfl⟩
abbrev main_v133 : Ref sig .tc := ⟨.hbm, 139, rfl⟩
abbrev main_cst_3 : Ref sig .tc := ⟨.hbm, 140, rfl⟩
abbrev main_call0_v0 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_cst_4 : Ref sig .tc := ⟨.hbm, 147, rfl⟩
abbrev main_cst_5 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_c : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_c_6 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩

abbrev nD : Nat := 1
abbrev τ : Topo := Topo.v7x

variable {F : FTy → Type} [FloatOps F]
-- ==== Proof.Block.lean ====
module

public import proofs.«01_k».proof.Proof.Gen.KernelIdeal.Frame

@[expose] public section

set_option maxRecDepth 16384

/-! # What one grid point stores, as functions of its scratch

The kernel's body repeats one computation for 2 chunks, 2 halves and 16 groups. Here that computation is written once,
and the two lists of stores of the body are shown to be it at each chunk, half and group. -/

noncomputable section

namespace Cert.KernelIdeal.Block

open Idealize.ShloMosaic Idealize.ShloMosaic.TcCoe Cert.KernelIdeal Cert.KernelIdeal.Gen

variable {F : FTy → Type} [FloatOps F]

/-- A tile of 8 rows and 128 lanes. -/
abbrev Tile (F : FTy → Type) := FVec F S8x128 .f32

/-- The butterfly's first `n` stages over eight tiles. -/
def bfly (u : ℕ → Tile F) : ℕ → ℕ → Tile F
  | 0, i => u i
  | k + 1, i => if i.testBit k then subf (bfly u k (i - 2 ^ k)) (bfly u k i) else addf (bfly u k i) (bfly u k (i + 2 ^ k))

/-- The larger magnitude of tile `i` of the even rows and of the odd rows. -/
def mag (ev od : ℕ → Tile F) (i : ℕ) : Tile F := maximumf (absf (bfly ev 3 i)) (absf (bfly od 3 i))

/-- The largest magnitude of a group, per column. -/
def peak (ev od : ℕ → Tile F) : FVec F S1x128 .f32 :=
  shapeCast S1x128 (multiReduction .maximumf [0] S128
    (maximumf (maximumf (maximumf (mag ev od 0) (mag ev od 1)) (maximumf (mag ev od 2) (mag ev od 3)))
      (maximumf (maximumf (mag ev od 4) (mag ev od 5)) (maximumf (mag ev od 6) (mag ev od 7))))
    0xFF800000#32 reduces_S8x128_S128 (.inl rfl) rfl) shapeCasts_S128_S1x128

/-- A group's scale, per column, from its largest magnitude. -/
def scaleTile (p : FVec F S1x128 .f32) : FVec F S1x128 .f32 :=
  let a := mulf p (broadcast S1x128 (Scalar.ofBits .f32 0x3CB504F3#32))
  select (cmpf .oeq a (broadcast S1x128 (Scalar.ofBits .f32 0x00000000#32)))
    (broadcast S1x128 (Scalar.ofBits .f32 0x3F800000#32))
    (divf a (broadcast S1x128 (Scalar.ofBits .f32 0x40E00000#32)))

/-- The factor that takes a butterfly output to its quotient by the scale. -/
def invTile (s : FVec F S1x128 .f32) : Tile F :=
  broadcastTo S8x128 (shapeCast S1x128 (divf (broadcast S1x128 (Scalar.ofBits .f32 0x3CB504F3#32)) s) shapeCasts_S1x128_S1x128)
    broadcasts_S1x128_S8x128

/-- The words of an even tile and an odd tile: two codes in the low byte. -/
def wordTile (e o inv : Tile F) : IVec S8x128 32 :=
  addi (fptosi 32 (addf
      (roundeven (minimumf (broadcast S8x128 (Scalar.ofBits .f32 0x40E00000#32))
        (maximumf (broadcast S8x128 (Scalar.ofBits .f32 0xC0E00000#32)) (mulf e inv))))
      (mulf (broadcast S8x128 (Scalar.ofBits .f32 0x41800000#32)) (roundeven (mulf
        (minimumf (broadcast S8x128 (Scalar.ofBits .f32 0x42E00000#32))
          (maximumf (broadcast S8x128 (Scalar.ofBits .f32 0xC2E00000#32))
            (mulf o (mulf inv (broadcast S8x128 (Scalar.ofBits .f32 0x41800000#32))))))
        (broadcast S8x128 (Scalar.ofBits .f32 0x3D800000#32)))))))
    (broadcast S8x128 1262485640#32)

/-- Word tile `i` of a group. -/
def groupWord (ev od : ℕ → Tile F) (i : ℕ) : IVec S8x128 32 :=
  wordTile (bfly ev 3 i) (bfly od 3 i) (invTile (scaleTile (peak ev od)))

/-- The sixteen word tiles of two groups, one under the other. -/
def stackTiles (w w' : ℕ → IVec S8x128 32) : IVec S128x128 32 :=
  concatenate S128x128 0
    (List.ofFn fun n : Fin 16 => (⟨S8x128, if n.val < 8 then w n.val else w' (n.val - 8)⟩ : (s : Shape) × (s.Idx → BitVec 32)))
    concatenates_S8x128_S8x128_S8x128_S8x128_S8x128_S8x128_S8x128_S8x128_S8x128_S8x128_S8x128_S8x128_S8x128_S8x128_S8x128_S8x128_S128x128_d0

/-- The bytes of two groups, transposed: rows are the columns, lanes the packed places. -/
def packTiles (w w' : ℕ → IVec S8x128 32) : IVec S1x128x128 8 :=
  shapeCast S1x128x128 (transpose S128x128 [1, 0] (xori (trunci 8 (stackTiles w w')
    natLt_8_32) (broadcast S128x128 136#8)) transposes_S128x128_p1_0_S128x128) shapeCasts_S128x128_S1x128x128

/-- A scratch's stores, newest first. -/
abbrev Stores (F : FTy → Type) := List (View.Piece (Elt F) S8x256x256 .f32)

/-- A tile of eight rows and 128 lanes lies within the scratch. -/
theorem inb_tile (r : Fin 8) (g : Fin 16) (o h : Fin 2) :
    ∀ a, (![r.val, 16 * g.val + 8 * o.val, 128 * h.val] : Fin 3 → Nat) a + S1x8x128.size a ≤ S8x256x256.size a := by
  have := r.isLt; have := g.isLt; have := o.isLt; have := h.isLt
  intro a; fin_cases a <;> simp [S1x8x128, S8x256x256] <;> omega

/-- Tile `r` of the even (`o = 0`) or odd (`o = 1`) rows of group `g`, lanes of half `h`, of a scratch after `H`. -/
def tile (arg6 : Memref sig .tc .vmem S8x256x256 .f32) (H : Stores F) (h : Fin 2) (g : Fin 16) (o : Fin 2) (r : ℕ) : Tile F :=
  shapeCast S8x128 (arg6.view.readCov H (Rect.unit (s := S8x256x256) ![(Fin.ofNat 8 r).val, 16 * g.val + 8 * o.val, 128 * h.val] S1x8x128.size
    (inb_tile (Fin.ofNat 8 r) g o h)).toLoadRect) shapeCasts_S1x8x128_S8x128

/-- The place of one group's scales lies within their block. -/
theorem inb_scale (c h : Fin 2) (g : Fin 16) :
    ∀ a, (![0, g.val, 256 * c.val + 128 * h.val] : Fin 3 → Nat) a + S1x1x128.size a ≤ S1x16x512.size a := by
  have := c.isLt; have := g.isLt; have := h.isLt
  intro a; fin_cases a <;> simp [S1x1x128, S1x16x512] <;> omega

/-- The store of the scales of group `g`. -/
def scalePiece (arg6 : Memref sig .tc .vmem S8x256x256 .f32) (H : Stores F) (c h : Fin 2) (g : Fin 16) :
    View.Piece (Elt F) S1x16x512 .f32 :=
  ⟨Rect.unit (s := S1x16x512) ![0, g.val, 256 * c.val + 128 * h.val] S1x1x128.size (inb_scale c h g),
    (shapeCast S1x1x128 (scaleTile (peak (tile arg6 H h g 0) (tile arg6 H h g 1))) shapeCasts_S1x128_S1x1x128 : FVec F S1x1x128 .f32)⟩

/-- The place of two groups' bytes lies within their block. -/
theorem inb_code (c h : Fin 2) (p : Fin 8) :
    ∀ a, (![0, 256 * c.val + 128 * h.val, 128 * p.val] : Fin 3 → Nat) a + S1x128x128.size a ≤ S1x512x1024.size a := by
  have := c.isLt; have := p.isLt; have := h.isLt
  intro a; fin_cases a <;> simp [S1x128x128, S1x512x1024] <;> omega

/-- Group `2 p + q`. -/
def pairOf (p : Fin 8) (q : Fin 2) : Fin 16 := ⟨2 * p.val + q.val, by omega⟩

/-- The store of the bytes of groups `2 p` and `2 p + 1`. -/
def codePiece (arg6 : Memref sig .tc .vmem S8x256x256 .f32) (H : Stores F) (c h : Fin 2) (p : Fin 8) :
    View.Piece (Elt F) S1x512x1024 .i8 :=
  ⟨Rect.unit (s := S1x512x1024) ![0, 256 * c.val + 128 * h.val, 128 * p.val] S1x128x128.size (inb_code c h p),
    (packTiles (groupWord (tile arg6 H h (pairOf p 0) 0) (tile arg6 H h (pairOf p 0) 1))
      (groupWord (tile arg6 H h (pairOf p 1) 0) (tile arg6 H h (pairOf p 1) 1)) : IVec S1x128x128 8)⟩

/-- One half's code stores, newest first. -/
def halfCodes (arg6 : Memref sig .tc .vmem S8x256x256 .f32) (H : Stores F) (c h : Fin 2) : List (View.Piece (Elt F) S1x512x1024 .i8) :=
  [codePiece arg6 H c h 7, codePiece arg6 H c h 6, codePiece arg6 H c h 5, codePiece arg6 H c h 4,
    codePiece arg6 H c h 3, codePiece arg6 H c h 2, codePiece arg6 H c h 1, codePiece arg6 H c h 0]

/-- One half's scale stores, newest first. -/
def halfScales (arg6 : Memref sig .tc .vmem S8x256x256 .f32) (H : Stores F) (c h : Fin 2) : List (View.Piece (Elt F) S1x16x512 .f32) :=
  [scalePiece arg6 H c h 15, scalePiece arg6 H c h 14, scalePiece arg6 H c h 13, scalePiece arg6 H c h 12,
    scalePiece arg6 H c h 11, scalePiece arg6 H c h 10, scalePiece arg6 H c h 9, scalePiece arg6 H c h 8,
    scalePiece arg6 H c h 7, scalePiece arg6 H c h 6, scalePiece arg6 H c h 5, scalePiece arg6 H c h 4,
    scalePiece arg6 H c h 3, scalePiece arg6 H c h 2, scalePiece arg6 H c h 1, scalePiece arg6 H c h 0]

variable (c : Dev nD) (i : grid0.Coords) (arg2 : Memref sig .tc .vmem S8x256x256 .bf16) (harg2 : arg2.IsWhole)
  (arg3 : Memref sig .tc .vmem S1x16x8x16x512 .bf16) (harg3 : arg3.IsWhole) (arg4 : Memref sig .tc .vmem S1x512x1024 .i8)
  (harg4 : arg4.IsWhole) (arg5 : Memref sig .tc .vmem S1x16x512 .f32) (harg5 : arg5.IsWhole)
  (arg6 : Memref sig .tc .vmem S8x256x256 .f32) (harg6 : arg6.IsWhole)
  (x0 : Vec F S8x256x256 .bf16) (x1 : Vec F S1x16x8x16x512 .bf16)

/-- The body's stores of scales are the groups' scales, for each chunk, half and group. -/
theorem scales_eq : (kernelRun0_A c i arg2 harg2 arg3 harg3 arg4 harg4 arg5 harg5 arg6 harg6 x0 x1).2.1
    = halfScales arg6 (kernelRun0_A.sl.HS0_16 c arg2 harg2 arg3 harg3 x0 x1) 1 1
      ++ (halfScales arg6 (kernelRun0_A.sl.HS0_16 c arg2 harg2 arg3 harg3 x0 x1) 1 0
      ++ (halfScales arg6 (kernelRun0_A.sl.HS0_8 c arg2 harg2 arg3 harg3 x0 x1) 0 1
      ++ halfScales arg6 (kernelRun0_A.sl.HS0_8 c arg2 harg2 arg3 harg3 x0 x1) 0 0)) := by
  sl_kernel_rfl

/-- The body's stores of bytes are the group pairs' bytes, for each chunk and half. -/
theorem codes_eq : (kernelRun0_A c i arg2 harg2 arg3 harg3 arg4 harg4 arg5 harg5 arg6 harg6 x0 x1).1
    = halfCodes arg6 (kernelRun0_A.sl.HS0_16 c arg2 harg2 arg3 harg3 x0 x1) 1 1
      ++ (halfCodes arg6 (kernelRun0_A.sl.HS0_16 c arg2 harg2 arg3 harg3 x0 x1) 1 0
      ++ (halfCodes arg6 (kernelRun0_A.sl.HS0_8 c arg2 harg2 arg3 harg3 x0 x1) 0 1
      ++ halfCodes arg6 (kernelRun0_A.sl.HS0_8 c arg2 harg2 arg3 harg3 x0 x1) 0 0)) := by
  sl_kernel_rfl

/-- A slab lies within the scratch and within the signed rotation. -/
theorem inb_slab (r : Fin 8) : ∀ a, (![r.val, 0, 0] : Fin 3 → Nat) a + S1x256x256.size a ≤ S8x256x256.size a := by
  have := r.isLt
  intro a; fin_cases a <;> simp [S1x256x256, S8x256x256] <;> omega

/-- The rows of a slab and the columns of a chunk lie within the block of weights. -/
theorem inb_rhs (c : Fin 2) (r : Fin 8) :
    ∀ a, (![0, 0, r.val, 0, 256 * c.val] : Fin 5 → Nat) a + S1x16x1x16x256.size a ≤ S1x16x8x16x512.size a := by
  have := r.isLt; have := c.isLt
  intro a; fin_cases a <;> simp [S1x16x1x16x256, S1x16x8x16x512] <;> omega

/-- The store of slab `r`'s product with the columns of chunk `q`. -/
def slabPiece (q : Fin 2) (r : Fin 8) : View.Piece (Elt F) S8x256x256 .f32 :=
  ⟨Rect.unit (s := S8x256x256) ![r.val, 0, 0] S1x256x256.size (inb_slab r),
    (shapeCast S1x256x256 (matmul dot_S256x256_S256x256_S256x256_1_0_0_1_n_n none
      (shapeCast S256x256 (View.readAt (Elt F) arg2.view
        (Rect.unit (s := S8x256x256) ![r.val, 0, 0] S1x256x256.size (inb_slab r)).toLoadRect (harg2.unread x0)) shapeCasts_S1x256x256_S256x256)
      (shapeCast S256x256 (shapeCast S16x16x256 (View.readAt (Elt F) arg3.view
        (Rect.unit (s := S1x16x8x16x512) ![0, 0, r.val, 0, 256 * q.val] S1x16x1x16x256.size (inb_rhs q r)).toLoadRect (harg3.unread x1))
          shapeCasts_S1x16x1x16x256_S16x16x256) shapeCasts_S16x16x256_S256x256)
      (constant S256x256 .f32 0x00000000#32)) shapeCasts_S256x256_S1x256x256 : FVec F S1x256x256 .f32)⟩

/-- One chunk's slab stores, newest first. -/
def slabs (q : Fin 2) : Stores F :=
  [slabPiece arg2 harg2 arg3 harg3 x0 x1 q 7, slabPiece arg2 harg2 arg3 harg3 x0 x1 q 6,
    slabPiece arg2 harg2 arg3 harg3 x0 x1 q 5, slabPiece arg2 harg2 arg3 harg3 x0 x1 q 4,
    slabPiece arg2 harg2 arg3 harg3 x0 x1 q 3, slabPiece arg2 harg2 arg3 harg3 x0 x1 q 2,
    slabPiece arg2 harg2 arg3 harg3 x0 x1 q 1, slabPiece arg2 harg2 arg3 harg3 x0 x1 q 0]

/-- The scratch after the first chunk's products. -/
theorem first_eq : kernelRun0_A.sl.HS0_8 c arg2 harg2 arg3 harg3 x0 x1 = slabs arg2 harg2 arg3 harg3 x0 x1 0 := by
  sl_kernel_rfl

/-- The scratch after the second chunk's products. -/
theorem second_eq : kernelRun0_A.sl.HS0_16 c arg2 harg2 arg3 harg3 x0 x1
    = slabs arg2 harg2 arg3 harg3 x0 x1 1 ++ slabs arg2 harg2 arg3 harg3 x0 x1 0 := by
  sl_kernel_rfl

end Cert.KernelIdeal.Block

end

end
-- ==== Proof.Hadamard.lean ====
module

public import Idealize.ShloMosaic.PureOps
public import Mathlib.Data.EReal.Operations
public import Mathlib.Data.EReal.Inv
public import Mathlib.Algebra.BigOperators.Intervals
public import Mathlib.Algebra.BigOperators.Ring.Finset
public import Mathlib.Tactic.NormNum
public import Mathlib.Tactic.Ring
public import Mathlib.Tactic.IntervalCases
public import Mathlib.Tactic.Positivity
public import Mathlib.Tactic.Choose

@[expose] public section

noncomputable section

namespace Cert.Hadamard

/-! # The fast Hadamard transform, over the extended reals -/

/-- Is an extended real one of the two infinities? -/
def Inf (x : EReal) : Prop := x = ⊤ ∨ x = ⊥

/-- Two extended reals are equal, or both infinite (of whatever signs). -/
def Alike (x y : EReal) : Prop := x = y ∨ (Inf x ∧ Inf y)

/-- A sum whose first term is infinite is infinite. -/
theorem Inf.add_left {x : EReal} (h : Inf x) (y : EReal) : Inf (x + y) := by
  rcases h with rfl | rfl <;> induction y <;> simp [Inf]

/-- A sum whose second term is infinite is infinite. -/
theorem Inf.add_right {y : EReal} (h : Inf y) (x : EReal) : Inf (x + y) := by
  rw [add_comm]; exact h.add_left x

/-- The negative of an infinity is infinite. -/
theorem Inf.neg {x : EReal} (h : Inf x) : Inf (-x) := by
  rcases h with rfl | rfl <;> simp [Inf]

/-- A difference whose first term is infinite is infinite. -/
theorem Inf.sub_left {x : EReal} (h : Inf x) (y : EReal) : Inf (x - y) := by
  rw [sub_eq_add_neg]; exact h.add_left _

/-- A difference whose second term is infinite is infinite. -/
theorem Inf.sub_right {y : EReal} (h : Inf y) (x : EReal) : Inf (x - y) := by
  rw [sub_eq_add_neg]; exact h.neg.add_right _

/-- What is not infinite is a real number. -/
theorem not_inf_iff {x : EReal} : ¬ Inf x ↔ ∃ r : ℝ, x = (r : EReal) := by
  induction x <;> simp [Inf]

/-- A sum with an infinite term is infinite. -/
theorem inf_sum {ι : Type*} (s : Finset ι) (f : ι → EReal) (i : ι) (hi : i ∈ s) (h : Inf (f i)) :
    Inf (∑ j ∈ s, f j) := by
  classical
  rw [← Finset.add_sum_erase s f hi]
  exact h.add_left _

/-- `n` butterfly stages, at distances 1, 2, …, `2 ^ (n - 1)`: at each the lower of a pair takes the sum, the
    upper the difference. -/
def stages : Nat → (Nat → EReal) → Nat → EReal
  | 0, x, i => x i
  | k + 1, x, i =>
    if i.testBit k then stages k x (i - 2 ^ k) - stages k x i else stages k x i + stages k x (i + 2 ^ k)

/-- The same stages over the reals. -/
def stagesR : Nat → (Nat → ℝ) → Nat → ℝ
  | 0, y, i => y i
  | k + 1, y, i =>
    if i.testBit k then stagesR k y (i - 2 ^ k) - stagesR k y i else stagesR k y i + stagesR k y (i + 2 ^ k)

/-- On real entries the stages are the stages over the reals. -/
theorem stages_coe (n : Nat) (x : Nat → EReal) (y : Nat → ℝ) (h : ∀ j, x j = (y j : EReal)) (i : Nat) :
    stages n x i = (stagesR n y i : EReal) := by
  induction n generalizing i with
  | zero => exact h i
  | succ k ih =>
    rw [stages, stagesR]
    split <;> simp only [ih] <;> norm_cast

/-- A bit of an index, by division. -/
theorem testBit_div (i k : Nat) : i.testBit k = decide (i / 2 ^ k % 2 = 1) := Nat.testBit_eq_decide_div_mod_eq

/-- An infinite entry of a block makes every entry of the transformed block infinite. -/
theorem stages_inf (n : Nat) (x : Nat → EReal) (i j : Nat) (hij : i / 2 ^ n = j / 2 ^ n) (h : Inf (x j)) :
    Inf (stages n x i) := by
  induction n generalizing i with
  | zero => simp only [pow_zero, Nat.div_one] at hij; subst hij; exact h
  | succ k ih =>
    rw [stages]
    have hp : 0 < 2 ^ k := by positivity
    have e (a : Nat) : a / 2 ^ (k + 1) = a / 2 ^ k / 2 := by rw [pow_succ, Nat.div_div_eq_div_mul]
    rw [e, e] at hij
    by_cases hb : i.testBit k
    · simp only [hb, if_true]
      rw [testBit_div, decide_eq_true_eq] at hb
      have hge : 2 ^ k ≤ i := by
        by_contra hlt
        rw [Nat.div_eq_of_lt (by omega)] at hb; omega
      have e1 : (i - 2 ^ k) / 2 ^ k = i / 2 ^ k - 1 := by
        conv_rhs => rw [show i = (i - 2 ^ k) + 2 ^ k by omega]
        rw [Nat.add_div_right _ hp]; rfl
      by_cases hj : j / 2 ^ k = i / 2 ^ k
      · exact (ih i hj.symm).sub_right _
      · exact (ih (i - 2 ^ k) (by rw [e1]; generalize i / 2 ^ k = a at *; generalize j / 2 ^ k = b at *; omega)).sub_left _
    · simp only [hb]
      rw [testBit_div, decide_eq_true_eq] at hb
      have e1 : (i + 2 ^ k) / 2 ^ k = i / 2 ^ k + 1 := Nat.add_div_right _ hp
      by_cases hj : j / 2 ^ k = i / 2 ^ k
      · exact (ih i hj.symm).add_left _
      · exact (ih (i + 2 ^ k) (by rw [e1]; generalize i / 2 ^ k = a at *; generalize j / 2 ^ k = b at *; omega)).add_right _

/-- The sign of entry `(i, j)` of the Hadamard matrix of order `2 ^ n`: minus one to the number of bits that
    `i` and `j` share. -/
def sgn (n i j : Nat) : ℝ := ∏ k ∈ Finset.range n, if i.testBit k && j.testBit k then (-1 : ℝ) else 1

/-- The sign depends on the low bits only. -/
theorem sgn_congr (n i i' j j' : Nat) (hi : ∀ k < n, i.testBit k = i'.testBit k)
    (hj : ∀ k < n, j.testBit k = j'.testBit k) : sgn n i j = sgn n i' j' := by
  refine Finset.prod_congr rfl fun k hk => ?_
  rw [hi k (Finset.mem_range.1 hk), hj k (Finset.mem_range.1 hk)]

/-- The stages are the product with the Hadamard matrix, within each block. -/
theorem stagesR_eq (n : Nat) (y : Nat → ℝ) (i : Nat) :
    stagesR n y i = ∑ j ∈ Finset.range (2 ^ n), sgn n i j * y (i / 2 ^ n * 2 ^ n + j) := by
  induction n generalizing i with
  | zero => simp [stagesR, sgn]
  | succ k ih =>
    have hp : 0 < 2 ^ k := by positivity
    have e : i / 2 ^ (k + 1) = i / 2 ^ k / 2 := by rw [pow_succ, Nat.div_div_eq_div_mul]
    have s1 (a j : Nat) (hj : j < 2 ^ k) : sgn (k + 1) a j = sgn k a j := by
      rw [sgn, Finset.prod_range_succ, Nat.testBit_lt_two_pow hj]; simp [sgn]
    have s2 (a j : Nat) (hj : j < 2 ^ k) :
        sgn (k + 1) a (2 ^ k + j) = sgn k a j * if a.testBit k then -1 else 1 := by
      rw [sgn, Finset.prod_range_succ, Nat.testBit_two_pow_add_eq, Nat.testBit_lt_two_pow hj]
      have : ∏ x ∈ Finset.range k, (if a.testBit x && (2 ^ k + j).testBit x then (-1 : ℝ) else 1) = sgn k a j :=
        sgn_congr k a a _ j (fun _ _ => rfl) fun q hq => Nat.testBit_two_pow_add_gt hq j
      rw [this]; simp
    rw [stagesR, pow_succ, mul_two, Finset.sum_range_add]
    rw [← mul_two, ← pow_succ, e]
    by_cases hb : i.testBit k
    · have hb' := hb
      rw [testBit_div, decide_eq_true_eq] at hb'
      have hge : 2 ^ k ≤ i := by
        by_contra hlt
        rw [Nat.div_eq_of_lt (by omega)] at hb'; omega
      have e1 : (i - 2 ^ k) / 2 ^ k = i / 2 ^ k - 1 := by
        conv_rhs => rw [show i = (i - 2 ^ k) + 2 ^ k by omega]
        rw [Nat.add_div_right _ hp]; rfl
      have eb : i / 2 ^ k = 2 * (i / 2 ^ k / 2) + 1 := by omega
      generalize i / 2 ^ k / 2 = q at *
      rw [if_pos hb, ih, ih, e1, eb, sub_eq_add_neg, ← Finset.sum_neg_distrib]
      congr 1
      · refine Finset.sum_congr rfl fun j hj => ?_
        rw [s1 _ _ (Finset.mem_range.1 hj)]
        congr 1
        · refine sgn_congr k _ _ _ _ (fun t ht => ?_) fun _ _ => rfl
          conv_rhs => rw [show i = 2 ^ k + (i - 2 ^ k) by omega]
          rw [Nat.testBit_two_pow_add_gt ht]
        · congr 1; rw [pow_succ]; simp only [Nat.add_sub_cancel]; ring
      · refine Finset.sum_congr rfl fun j hj => ?_
        rw [s2 _ _ (Finset.mem_range.1 hj), if_pos hb]
        rw [show q * 2 ^ (k + 1) + (2 ^ k + j) = (2 * q + 1) * 2 ^ k + j by rw [pow_succ]; ring]
        ring
    · have hb' := hb
      rw [testBit_div, decide_eq_true_eq] at hb'
      have e1 : (i + 2 ^ k) / 2 ^ k = i / 2 ^ k + 1 := Nat.add_div_right _ hp
      have eb : i / 2 ^ k = 2 * (i / 2 ^ k / 2) := by omega
      generalize i / 2 ^ k / 2 = q at *
      rw [if_neg hb, ih, ih, e1, eb]
      congr 1
      · refine Finset.sum_congr rfl fun j hj => ?_
        rw [s1 _ _ (Finset.mem_range.1 hj)]
        congr 2; rw [pow_succ]; ring
      · refine Finset.sum_congr rfl fun j hj => ?_
        rw [s2 _ _ (Finset.mem_range.1 hj), if_neg hb, mul_one]
        congr 1
        · refine sgn_congr k _ _ _ _ (fun t ht => ?_) fun _ _ => rfl
          rw [Nat.add_comm, Nat.testBit_two_pow_add_gt ht]
        · congr 1; rw [pow_succ]; ring

/-- A sign is one or minus one. -/
theorem sgn_cases (n i j : Nat) : sgn n i j = 1 ∨ sgn n i j = -1 := by
  induction n with
  | zero => simp [sgn]
  | succ k ih =>
    rw [sgn, Finset.prod_range_succ]; change sgn k i j * _ = 1 ∨ sgn k i j * _ = -1
    rcases ih with h | h <;> rw [h] <;> split <;> simp

/-- The signs split as the index does: 4 bits of group and 4 of lane (the matrix product's 8), 3 of slab. -/
theorem sgn_split (g r l g' r' l' : Nat) (hr : r < 8) (hl : l < 16) (hr' : r' < 8)
    (hl' : l' < 16) :
    sgn 11 (128 * g + 16 * r + l) (128 * g' + 16 * r' + l')
      = sgn 3 r r' * sgn 8 (16 * g + l) (16 * g' + l') := by
  have key (a b c : Nat) (hb : b < 8) (hc : c < 16) :
      (∀ k < 4, (128 * a + 16 * b + c).testBit k = (16 * a + c).testBit k)
      ∧ (∀ k < 3, (128 * a + 16 * b + c).testBit (k + 4) = b.testBit k)
      ∧ (∀ k < 4, (128 * a + 16 * b + c).testBit (k + 7) = (16 * a + c).testBit (k + 4)) := by
    refine ⟨fun k hk => ?_, fun k hk => ?_, fun k hk => ?_⟩ <;> rw [testBit_div, testBit_div]
    · congr 2; interval_cases k <;> simp only [Nat.reducePow] <;> omega
    · congr 2; interval_cases k <;> simp only [Nat.reducePow, Nat.reduceAdd] <;> omega
    · rw [Nat.pow_add, Nat.pow_add, Nat.mul_comm (2 ^ k), Nat.mul_comm (2 ^ k), ← Nat.div_div_eq_div_mul,
        ← Nat.div_div_eq_div_mul, show (128 * a + 16 * b + c) / 2 ^ 7 = a by omega, show (16 * a + c) / 2 ^ 4 = a by omega]
  obtain ⟨a1, a2, a3⟩ := key g r l hr hl
  obtain ⟨b1, b2, b3⟩ := key g' r' l' hr' hl'
  generalize 128 * g + 16 * r + l = d at *
  generalize 128 * g' + 16 * r' + l' = d' at *
  generalize 16 * g + l = p at *
  generalize 16 * g' + l' = p' at *
  have c0 := a1 0 (by omega); have c1 := a1 1 (by omega); have c2 := a1 2 (by omega); have c3 := a1 3 (by omega)
  have d0 := b1 0 (by omega); have d1 := b1 1 (by omega); have d2 := b1 2 (by omega); have d3 := b1 3 (by omega)
  have c4 := a2 0 (by omega); have c5 := a2 1 (by omega); have c6 := a2 2 (by omega)
  have d4 := b2 0 (by omega); have d5 := b2 1 (by omega); have d6 := b2 2 (by omega)
  have c7 := a3 0 (by omega); have c8 := a3 1 (by omega); have c9 := a3 2 (by omega); have c10 := a3 3 (by omega)
  have d7 := b3 0 (by omega); have d8 := b3 1 (by omega); have d9 := b3 2 (by omega); have d10 := b3 3 (by omega)
  simp only [Nat.zero_add, Nat.reduceAdd] at *
  simp only [sgn, Finset.prod_range_succ, Finset.prod_range_zero, c0, c1, c2, c3, c4, c5, c6, c7, c8, c9, c10,
    d0, d1, d2, d3, d4, d5, d6, d7, d8, d9, d10]
  ring

/-- Slab `r`'s row of the matrix product: row `p` of the Hadamard matrix of order 256 with the entries of the
    column that belong to the slab. -/
def slabRow (x : Nat → EReal) (p r : Nat) : EReal :=
  ∑ k ∈ Finset.range 256, (sgn 8 p k : EReal) * x (128 * (k / 16) + 16 * r + k % 16)

/-- The kernel's way to the transform: the 256-row products slab by slab, then three stages across the 8 slabs. -/
def bySlabs (x : Nat → EReal) (p r : Nat) : EReal := stages 3 (slabRow x p) r

/-- A sign times an infinity is infinite. -/
theorem inf_sgn_mul {n i j : Nat} {x : EReal} (h : Inf x) : Inf ((sgn n i j : EReal) * x) := by
  rcases sgn_cases n i j with e | e <;> rw [e] <;> rcases h with rfl | rfl <;> simp [Inf]

/-- Both ways agree, up to the sign of an infinity. -/
theorem alike (x : Nat → EReal) (hx : ∀ j, 2048 ≤ j → x j = 0) (g r l : Nat) (hg : g < 16) (hr : r < 8) (hl : l < 16) :
    Alike (stages 11 x (128 * g + 16 * r + l)) (bySlabs x (16 * g + l) r) := by
  by_cases h : ∃ j, Inf (x j)
  · obtain ⟨j, hj⟩ := h
    have hlt : j < 2048 := by
      by_contra hge
      rw [hx j (by omega)] at hj; simp [Inf] at hj
    right
    refine ⟨stages_inf 11 x _ j ?_ hj, stages_inf 3 _ r (j / 16 % 8) ?_ ?_⟩
    · rw [Nat.div_eq_of_lt (by norm_num; omega), Nat.div_eq_of_lt (by norm_num; omega)]
    · rw [Nat.div_eq_of_lt (by norm_num; omega), Nat.div_eq_of_lt (by norm_num; omega)]
    · refine inf_sum _ _ (16 * (j / 128) + j % 16) (Finset.mem_range.2 (by omega)) (inf_sgn_mul ?_)
      rwa [show 128 * ((16 * (j / 128) + j % 16) / 16) + 16 * (j / 16 % 8) + (16 * (j / 128) + j % 16) % 16 = j by omega]
  · left
    simp only [not_exists, not_inf_iff] at h
    choose y hy using h
    rw [stages_coe 11 x y hy]
    have hs (r' : Nat) : slabRow x (16 * g + l) r'
        = ((∑ k ∈ Finset.range 256, sgn 8 (16 * g + l) k * y (128 * (k / 16) + 16 * r' + k % 16) : ℝ) : EReal) := by
      rw [slabRow]
      have (s : Finset Nat) : ∑ k ∈ s, (sgn 8 (16 * g + l) k : EReal) * x (128 * (k / 16) + 16 * r' + k % 16)
          = ((∑ k ∈ s, sgn 8 (16 * g + l) k * y (128 * (k / 16) + 16 * r' + k % 16) : ℝ) : EReal) := by
        classical
        induction s using Finset.induction_on with
        | empty => simp
        | insert a s ha ih => rw [Finset.sum_insert ha, Finset.sum_insert ha, ih, hy]; norm_cast
      exact this _
    rw [bySlabs, stages_coe 3 _ _ hs, stagesR_eq, stagesR_eq]
    congr 1
    rw [Nat.div_eq_of_lt (by norm_num; omega), Nat.div_eq_of_lt (by norm_num; omega)]
    simp only [Nat.zero_mul, Nat.zero_add]
    simp only [Finset.mul_sum]
    rw [← Finset.sum_product']
    refine Finset.sum_nbij' (fun j => (j / 16 % 8, 16 * (j / 128) + j % 16))
      (fun q => 128 * (q.2 / 16) + 16 * q.1 + q.2 % 16) ?_ ?_ ?_ ?_ ?_
    · intro j hj; simp only [Finset.mem_product, Finset.mem_range] at *; norm_num at hj; constructor <;> norm_num <;> omega
    · intro q hq; simp only [Finset.mem_product, Finset.mem_range] at *; norm_num at hq ⊢; omega
    · intro j hj; simp only [Finset.mem_range] at *; norm_num at hj; omega
    · rintro ⟨a, b⟩ hq; simp only [Finset.mem_product, Finset.mem_range] at *; norm_num at hq
      ext <;> simp only <;> omega
    · intro j hj
      simp only [Finset.mem_range] at hj; norm_num at hj
      have h1 : 128 * ((16 * (j / 128) + j % 16) / 16) + 16 * (j / 16 % 8) + (16 * (j / 128) + j % 16) % 16 = j := by omega
      simp only [h1]
      rw [← mul_assoc]
      congr 1
      conv_lhs => rw [show j = 128 * (j / 128) + 16 * (j / 16 % 8) + j % 16 by omega]
      exact sgn_split g r l _ _ _ hr hl (by omega) (by omega)

end Cert.Hadamard

end

end
-- ==== Proof.Quantise.lean ====
module

public import proofs.«01_k».proof.Proof.Hadamard
public import Mathlib.Tactic.Linarith
public import Idealize.ShloMosaic.PureOps.Ideal

@[expose] public section

noncomputable section

namespace Cert.Quantise

open Idealize.ShloMosaic Cert.Hadamard

/-! # Scale, round, clip and pack, over the extended reals -/

/-- Rounding to the nearest integer, halves to even. -/
def rnd (x : EReal) : EReal := Ideal.liftRound Ideal.roundHalfEven x

/-- The clip to the code range. -/
def clip7 (x : EReal) : EReal := min 7 (max (-7) x)

/-- The absolute value. -/
def absE (x : EReal) : EReal := max x (-x)

/-- The scale of a group whose largest absolute value is `a`. -/
def scaleOf (a : EReal) : EReal := if a = 0 then 1 else Ideal.div a 7

/-- Rounding moves a real by at most a half. -/
theorem rhe_bounds (r : ℝ) : r - 1 / 2 ≤ (Ideal.roundHalfEven r : ℝ) ∧ (Ideal.roundHalfEven r : ℝ) ≤ r + 1 / 2 := by
  have h1 := Int.floor_le r
  have h2 := Int.lt_floor_add_one r
  unfold Ideal.roundHalfEven
  dsimp only
  split
  · constructor <;> linarith
  · split
    · push_cast; constructor <;> linarith
    · split
      · constructor <;> linarith
      · push_cast; constructor <;> linarith

/-- Rounding to the nearest integer is monotone. -/
theorem rhe_mono : Monotone Ideal.roundHalfEven := by
  intro r s h
  by_contra hlt
  have h3 : Ideal.roundHalfEven s + 1 ≤ Ideal.roundHalfEven r := by omega
  have h4 : (Ideal.roundHalfEven s : ℝ) + 1 ≤ Ideal.roundHalfEven r := by exact_mod_cast h3
  have h1 := (rhe_bounds r).2
  have h2 := (rhe_bounds s).1
  have : r = s := by linarith
  subst this
  omega

/-- An integer rounds to itself. -/
theorem rhe_int (n : ℤ) : Ideal.roundHalfEven (n : ℝ) = n := by
  unfold Ideal.roundHalfEven
  simp

/-- An integer rounds to itself, as an extended real. -/
theorem rnd_int (n : ℤ) : rnd (((n : ℝ)) : EReal) = ((n : ℝ) : EReal) := by
  rw [rnd, Ideal.liftRound_coe, rhe_int]

/-- Rounding is monotone on the extended reals. -/
theorem rnd_mono : Monotone rnd := by
  intro x y h
  induction x with
  | bot => simp [rnd]
  | top => rw [top_le_iff] at h; subst h; exact le_rfl
  | coe r =>
    induction y with
    | bot => simp at h
    | top => simp [rnd]
    | coe s =>
      simp only [rnd, Ideal.liftRound_coe]
      have := rhe_mono (EReal.coe_le_coe_iff.1 h)
      exact_mod_cast this

/-- Seven as an integer. -/
theorem e7 : (7 : EReal) = (((7 : ℤ) : ℝ) : EReal) := by norm_num; rfl

/-- Minus seven as an integer. -/
theorem em7 : (-7 : EReal) = (((-7 : ℤ) : ℝ) : EReal) := by
  rw [e7, ← EReal.coe_neg]; norm_num

/-- Rounding and clipping commute: the clip's bounds are integers. -/
theorem rnd_clip7 (x : EReal) : rnd (clip7 x) = clip7 (rnd x) := by
  rw [clip7, clip7, rnd_mono.map_min, rnd_mono.map_max]
  rw [show rnd 7 = 7 by rw [e7, rnd_int], show rnd (-7) = -7 by rw [em7, rnd_int]]

/-- A code is an integer from -7 to 7. -/
theorem code_int (x : EReal) : ∃ n : ℤ, -7 ≤ n ∧ n ≤ 7 ∧ clip7 (rnd x) = ((n : ℝ) : EReal) := by
  rw [clip7, em7, e7]
  induction x with
  | bot => exact ⟨-7, by norm_num, by norm_num, by simp [rnd]; rw [← EReal.coe_neg, EReal.coe_le_coe_iff]; norm_num⟩
  | top => exact ⟨7, by norm_num, by norm_num, by simp [rnd]⟩
  | coe r =>
    refine ⟨min 7 (max (-7) (Ideal.roundHalfEven r)), ?_, ?_, ?_⟩
    · exact le_min (by norm_num) (le_max_left _ _)
    · exact min_le_left _ _
    · simp only [rnd, Ideal.liftRound_coe]
      push_cast
      rfl

/-- Multiplying by a positive real is monotone. -/
theorem mul_pos_mono {c : ℝ} (hc : 0 < c) : Monotone fun x : EReal => x * (c : EReal) := fun _ _ h =>
  mul_le_mul_of_nonneg_right h (by exact_mod_cast hc.le)

/-- The clip at sixteen times the scale is sixteen times the clip. -/
theorem clip_sixteen (o i : EReal) :
    min ((112 : ℝ) : EReal) (max ((-112 : ℝ) : EReal) (o * (i * ((16 : ℝ) : EReal)))) * ((0.0625 : ℝ) : EReal) = clip7 (o * i) := by
  have hm := mul_pos_mono (show (0 : ℝ) < 0.0625 by norm_num)
  have h1 := hm.map_min (a := ((112 : ℝ) : EReal)) (b := max ((-112 : ℝ) : EReal) (o * (i * ((16 : ℝ) : EReal))))
  have h2 := hm.map_max (a := ((-112 : ℝ) : EReal)) (b := o * (i * ((16 : ℝ) : EReal)))
  beta_reduce at h1 h2
  rw [h1, h2, clip7, em7, e7, ← EReal.coe_mul, ← EReal.coe_mul, ← mul_assoc, mul_assoc (o * i), ← EReal.coe_mul]
  norm_num

/-- A small integer converts to its own word. -/
theorem fptosi_int (n : ℤ) (h1 : -1000 ≤ n) (h2 : n ≤ 1000) : Ideal.fptosi 32 ((n : ℝ) : EReal) = BitVec.ofInt 32 n := by
  rw [Ideal.fptosi, Ideal.toIntClamped_coe]
  congr 1
  simp only [Int.floor_intCast, Int.ceil_intCast, ite_self]
  norm_num
  omega

/-- Packing one pair of codes: the kernel's word, cut to a byte and its sign bits flipped, is the two nibbles. -/
theorem byte_eq (a b : Fin 15) :
    BitVec.truncate 8 (BitVec.ofInt 32 (((a : ℕ) : ℤ) - 7 + 16 * (((b : ℕ) : ℤ) - 7)) + 0x4B400088#32) ^^^ 0x88#8
      = BitVec.truncate 8 ((BitVec.signExtend 32 (BitVec.truncate 8 (BitVec.ofInt 32 (((a : ℕ) : ℤ) - 7))) &&& 15#32)
          ||| (BitVec.signExtend 32 (BitVec.truncate 8 (BitVec.ofInt 32 (((b : ℕ) : ℤ) - 7))) &&& 15#32) <<< 4) := by
  revert a b; decide +kernel

/-- The byte the kernel packs from two clipped values before rounding. -/
def byteK (xe xo : EReal) : BitVec 8 :=
  BitVec.truncate 8 (Ideal.fptosi 32 (rnd xe + ((16 : ℝ) : EReal) * rnd xo) + 0x4B400088#32) ^^^ 0x88#8

/-- A nibble of the reference. -/
def nib (c : EReal) : BitVec 32 := BitVec.signExtend 32 (BitVec.truncate 8 (Ideal.fptosi 32 c)) &&& 15#32

/-- The byte the reference packs from two codes. -/
def byteR (ce co : EReal) : BitVec 8 := BitVec.truncate 8 (nib ce ||| nib co <<< 4)

/-- The two bytes agree. -/
theorem byte_agree (x y : EReal) : byteK (clip7 x) (clip7 y) = byteR (clip7 (rnd x)) (clip7 (rnd y)) := by
  rw [byteK, rnd_clip7, rnd_clip7]
  obtain ⟨a, a1, a2, ha⟩ := code_int x
  obtain ⟨b, b1, b2, hb⟩ := code_int y
  rw [ha, hb, byteR, nib, nib, fptosi_int a (by omega) (by omega), fptosi_int b (by omega) (by omega)]
  have : ((a : ℝ) : EReal) + ((16 : ℝ) : EReal) * ((b : ℝ) : EReal) = (((a + 16 * b : ℤ) : ℝ) : EReal) := by
    rw [← EReal.coe_mul, ← EReal.coe_add]; push_cast; rfl
  rw [this, fptosi_int _ (by omega) (by omega)]
  have := byte_eq ⟨(a + 7).toNat, by omega⟩ ⟨(b + 7).toNat, by omega⟩
  simp only [Int.toNat_of_nonneg (show 0 ≤ a + 7 by omega), Int.toNat_of_nonneg (show 0 ≤ b + 7 by omega),
    add_sub_cancel_right] at this
  exact this

/-- A positive factor leaves the absolute value. -/
theorem absE_mul {c : ℝ} (hc : 0 < c) (x : EReal) : absE (x * c) = absE x * c := by
  have h := (mul_pos_mono hc).map_max (a := x) (b := -x)
  simp only [EReal.neg_mul] at h
  exact h.symm

/-- The absolute value of an infinity is the upper one. -/
theorem absE_inf {x : EReal} (h : Inf x) : absE x = ⊤ := by
  rcases h with rfl | rfl <;> simp [absE]

/-- The largest absolute value of the 128 values of a group. -/
def amp (f : Nat → EReal) : EReal := (Finset.range 128).sup fun i => absE (f i)

/-- A positive factor leaves the largest absolute value. -/
theorem amp_mul {c : ℝ} (hc : 0 < c) (f : Nat → EReal) : amp (fun i => f i * c) = amp f * c := by
  have := Finset.comp_sup_eq_sup_comp_of_is_total (s := Finset.range 128) (f := fun i => absE (f i)) _ (mul_pos_mono hc)
    (EReal.bot_mul_coe_of_pos hc)
  rw [amp, amp, this]
  refine Finset.sup_congr rfl fun i _ => ?_
  rw [absE_mul hc]; rfl

/-- Values equal up to the sign of infinities have one largest absolute value. -/
theorem amp_congr {f g : Nat → EReal} (h : ∀ i < 128, Alike (f i) (g i)) : amp f = amp g := by
  refine Finset.sup_congr rfl fun i hi => ?_
  rcases h i (Finset.mem_range.1 hi) with e | ⟨a, b⟩
  · rw [e]
  · rw [absE_inf a, absE_inf b]

/-- An infinite value makes the largest absolute value infinite. -/
theorem amp_inf {f : Nat → EReal} {i : Nat} (hi : i < 128) (h : Inf (f i)) : amp f = ⊤ :=
  top_le_iff.1 (by rw [← absE_inf h]; exact Finset.le_sup (f := fun i => absE (f i)) (Finset.mem_range.2 hi))

/-- No scale is zero. -/
theorem scaleOf_ne_zero (a : EReal) : scaleOf a ≠ 0 := by
  rw [scaleOf]
  split
  · exact one_ne_zero
  · rename_i h
    rw [e7, Ideal.div_coe (by norm_num)]
    refine mul_ne_zero h ?_
    norm_num

/-- The scale of an infinite group is infinite. -/
theorem scaleOf_top : scaleOf ⊤ = ⊤ := by
  rw [scaleOf, if_neg (by simp), e7, Ideal.div_coe (by norm_num)]
  exact EReal.top_mul_coe_of_pos (by norm_num)

/-- Dividing the normalised value by the scale is multiplying the value by the normaliser over the scale, for values
    that are equal or both infinite. -/
theorem quotient {c : ℝ} (hc : 0 < c) {f g : Nat → EReal} (h : ∀ i < 128, Alike (f i) (g i)) {i : Nat} (hi : i < 128) :
    Ideal.div (f i * c) (scaleOf (amp fun i => f i * c)) = g i * Ideal.div c (scaleOf (amp g * c)) := by
  rw [amp_mul hc, amp_congr h]
  rcases h i hi with e | ⟨-, b⟩
  · rw [e, Ideal.div, Ideal.div, if_neg (scaleOf_ne_zero _), if_neg (scaleOf_ne_zero _), mul_assoc]
  · rw [amp_inf hi b, EReal.top_mul_coe_of_pos hc, scaleOf_top, Ideal.div, Ideal.div, if_neg (by simp), if_neg (by simp)]
    simp

end Cert.Quantise

end

end
-- ==== Proof.Words.lean ====
module

public import proofs.«01_k».proof.Proof.Quantise

@[expose] public section

/-! # The float constants of the two programs, as extended reals -/

namespace Cert.Words

open Idealize.ShloMosaic

/-- The word of 7. -/
theorem seven : Ideal.ofBits .f32 1088421888#32 = 7 := by
  rw [Cert.Quantise.e7]
  simp [Ideal.ofBits, Ideal.ieee, -EReal.coe_mul, -EReal.coe_neg]; norm_num

/-- The word of -7. -/
theorem neg_seven : Ideal.ofBits .f32 3235905536#32 = -7 := by
  rw [Cert.Quantise.em7]
  simp [Ideal.ofBits, Ideal.ieee, -EReal.coe_mul, -EReal.coe_neg]; norm_num

/-- The word of 16. -/
theorem sixteen : Ideal.ofBits .f32 1098907648#32 = ((16 : ℝ) : EReal) := by
  simp [Ideal.ofBits, Ideal.ieee, -EReal.coe_mul, -EReal.coe_neg]; norm_num

/-- The word of 112. -/
theorem k112 : Ideal.ofBits .f32 1121976320#32 = ((112 : ℝ) : EReal) := by
  simp [Ideal.ofBits, Ideal.ieee, -EReal.coe_mul, -EReal.coe_neg]; norm_num

/-- The word of -112. -/
theorem neg_112 : Ideal.ofBits .f32 3269459968#32 = ((-112 : ℝ) : EReal) := by
  simp [Ideal.ofBits, Ideal.ieee, -EReal.coe_mul, -EReal.coe_neg]; norm_num

/-- The word of one sixteenth. -/
theorem sixteenth : Ideal.ofBits .f32 1031798784#32 = ((0.0625 : ℝ) : EReal) := by
  simp [Ideal.ofBits, Ideal.ieee, -EReal.coe_mul, -EReal.coe_neg]; norm_num

/-- The transform's normalisation. -/
noncomputable def norm : ℝ := 11863283 / 2 ^ 29

/-- The normalisation is positive. -/
theorem norm_pos : 0 < norm := by unfold norm; norm_num

/-- The word of the normalisation. -/
theorem norm_eq : Ideal.ofBits .f32 1018496243#32 = (norm : EReal) := by
  simp [Ideal.ofBits, Ideal.ieee, norm, -EReal.coe_mul]; norm_num

/-- The word of minus infinity. -/
theorem bot : Ideal.ofBits .f32 4286578688#32 = ⊥ := by
  simp [Ideal.ofBits, Ideal.ieee]

/-- The word of zero. -/
theorem zero : Ideal.ofBits .f32 0#32 = 0 := by
  simp [Ideal.ofBits, Ideal.ieee]

end Cert.Words

end
-- ==== Proof.BlockAt.lean ====
module

public import proofs.«01_k».proof.Proof.Block
public import proofs.«01_k».proof.Proof.Words
public import Idealize.ShloMosaic.Lib.Pointwise
public import Idealize.ShloMosaic.Lib.WholeRead
public import Idealize.ShloMosaic.Lib.Pipeline.CanonAppend
public import Idealize.ShloMosaic.Lib.Pipeline.Value

@[expose] public section

set_option maxRecDepth 16384

/-! # What one grid point leaves in its two output blocks, entry by entry -/

noncomputable section

namespace Cert.KernelIdeal.Block

open Idealize.ShloMosaic Idealize.ShloMosaic.TcCoe Cert.KernelIdeal Cert.KernelIdeal.Gen
open Cert.Hadamard Cert.Quantise

/-! ## One tile at an entry -/

/-- An entry of one slab's matrix product is the sum over the 256 rows of the slab. -/
theorem slab_product (A : FVec Ideal S1x256x256 .bf16) (B : FVec Ideal S1x16x1x16x256 .bf16) (z : Fin 1) (p n : Fin 256) :
    (shapeCast S1x256x256 (matmul dot_S256x256_S256x256_S256x256_1_0_0_1_n_n none
      (shapeCast S256x256 A shapeCasts_S1x256x256_S256x256)
      (shapeCast S256x256 (shapeCast S16x16x256 B
          shapeCasts_S1x16x1x16x256_S16x16x256) shapeCasts_S16x16x256_S256x256)
      (constant S256x256 .f32 0x00000000#32)) shapeCasts_S256x256_S1x256x256 : FVec Ideal S1x256x256 .f32) (ix3 z p n)
      = ∑ k : Fin 256, A (ix3 0 p k) * B (ix5 0 ⟨k.val / 16, by omega⟩ 0 ⟨k.val % 16, by omega⟩ n) := by
  pointwise [dot_S256x256_S256x256_S256x256_1_0_0_1_n_n]

/-- Dropping the leading axis of a tile keeps its entries. -/
theorem tile_cast (T : FVec Ideal S1x8x128 .f32) (a : Fin 8) (s : Fin 128) :
    shapeCast S8x128 T shapeCasts_S1x8x128_S8x128 (ix2 a s) = T (ix3 0 a s) := by
  pointwise []

/-- Adding a leading axis to a row of scales keeps its entries. -/
theorem scale_cast (T : FVec Ideal S1x128 .f32) (z z' : Fin 1) (s : Fin 128) :
    shapeCast S1x1x128 T shapeCasts_S1x128_S1x1x128 (ix3 z z' s) = T (ix2 0 s) := by
  pointwise []

/-- The butterfly of tiles is the butterfly stages at every entry. -/
theorem bfly_at (u : ℕ → Tile Ideal) (n i : ℕ) (x : S8x128.Idx) :
    bfly u n i x = stages n (fun r => u r x) i := by
  induction n generalizing i with
  | zero => rfl
  | succ k ih =>
    simp only [bfly, stages]
    split
    · rw [← ih, ← ih]; rfl
    · rw [← ih, ← ih]; rfl

/-- Value `t` of a group at one column: row `t % 16 / 2` of the even or the odd tile `t / 16`, after the butterfly. -/
def groupVal (ev od : ℕ → Tile Ideal) (s : Fin 128) (t : ℕ) : EReal :=
  stages 3 (fun r => (if t % 2 = 0 then ev else od) r (ix2 ⟨t % 16 / 2, by omega⟩ s)) (t / 16)

/-- An entry of the magnitudes of one pair of tiles is the larger of two neighbouring values. -/
theorem mag_at (ev od : ℕ → Tile Ideal) (i : ℕ) (a : Fin 8) (s : Fin 128) :
    mag ev od i (ix2 a s) = max (absE (groupVal ev od s (16 * i + 2 * a.val))) (absE (groupVal ev od s (16 * i + 2 * a.val + 1))) := by
  have e1 : (16 * i + 2 * a.val) % 2 = 0 := by omega
  have e2 : (16 * i + 2 * a.val + 1) % 2 = 1 := by omega
  have e3 : (16 * i + 2 * a.val) % 16 / 2 = a.val := by omega
  have e4 : (16 * i + 2 * a.val + 1) % 16 / 2 = a.val := by omega
  have e5 : (16 * i + 2 * a.val) / 16 = i := by omega
  have e6 : (16 * i + 2 * a.val + 1) / 16 = i := by omega
  simp only [groupVal, e1, e2, e3, e4, e5, e6, if_true, Fin.eta, one_ne_zero, if_false]
  show max (absE (bfly ev 3 i (ix2 a s))) (absE (bfly od 3 i (ix2 a s))) = _
  rw [bfly_at, bfly_at]

/-- The peak of a column is the largest absolute value of the group. -/
theorem peak_at (ev od : ℕ → Tile Ideal) (z : Fin 1) (s : Fin 128) :
    peak ev od (ix2 z s) = amp (groupVal ev od s) := by
  unfold peak
  pointwise []
  simp only [mag_at]
  have hle : ∀ t < 128, absE (groupVal ev od s t) ≤ amp (groupVal ev od s) := fun t ht =>
    Finset.le_sup (f := fun i => absE (groupVal ev od s i)) (Finset.mem_range.2 ht)
  refine le_antisymm ?_ ?_
  · rw [Finset.fold_max_le]
    refine ⟨by rw [Cert.Words.bot]; exact bot_le, fun a _ => ?_⟩
    have := a.isLt
    simp only [max_le_iff]
    refine ⟨⟨⟨⟨?_, ?_⟩, ⟨?_, ?_⟩⟩, ⟨⟨?_, ?_⟩, ⟨?_, ?_⟩⟩⟩, ⟨⟨⟨?_, ?_⟩, ⟨?_, ?_⟩⟩, ⟨⟨?_, ?_⟩, ⟨?_, ?_⟩⟩⟩⟩ <;>
      exact hle _ (by omega)
  · refine Finset.sup_le fun t ht => ?_
    have ht := Finset.mem_range.1 ht
    rw [Finset.le_fold_max]
    refine Or.inr ⟨⟨t % 16 / 2, by omega⟩, Finset.mem_univ _, ?_⟩
    simp only [le_max_iff]
    have hi : t / 16 < 8 := by omega
    obtain ⟨i, e⟩ : ∃ i, i = t / 16 := ⟨_, rfl⟩
    have hc : t = 16 * i + 2 * (t % 16 / 2) ∨ t = 16 * i + 2 * (t % 16 / 2) + 1 := by omega
    rw [← e] at hi
    have h0 : absE (groupVal ev od s t) ≤ absE (groupVal ev od s (16 * i + 2 * (t % 16 / 2)))
        ∨ absE (groupVal ev od s t) ≤ absE (groupVal ev od s (16 * i + 2 * (t % 16 / 2) + 1)) := by
      rcases hc with h | h
      · left; rw [← h]
      · right; rw [← h]
    clear hc e
    interval_cases i <;> tauto

/-- An entry of the scales is the scale of the normalised peak. -/
theorem scaleTile_at (p : FVec Ideal S1x128 .f32) (z : Fin 1) (s : Fin 128) :
    scaleTile p (ix2 z s) = scaleOf (p (ix2 z s) * (Cert.Words.norm : EReal)) := by
  pointwise [scaleTile]
  rw [Cert.Words.norm_eq, Cert.Words.seven]
  rfl

/-- An entry of the multipliers is the normaliser over the column's scale. -/
theorem inv_at (p : FVec Ideal S1x128 .f32) (a : Fin 8) (s : Fin 128) :
    invTile p (ix2 a s) = Ideal.div (Cert.Words.norm : EReal) (p (ix2 0 s)) := by
  pointwise [invTile]
  rw [Cert.Words.norm_eq]

/-- A word, cut to a byte and with its sign bits flipped, packs the two clipped values. -/
theorem word_at (e o inv : Tile Ideal) (a : Fin 8) (s : Fin 128) :
    IntOp.xori (BitVec.setWidth 8 (wordTile e o inv (ix2 a s))) 136#8
      = byteK (clip7 (e (ix2 a s) * inv (ix2 a s))) (clip7 (o (ix2 a s) * inv (ix2 a s))) := by
  pointwise [wordTile]
  rw [Cert.Words.seven, Cert.Words.neg_seven, Cert.Words.sixteen, Cert.Words.k112, Cert.Words.neg_112, Cert.Words.sixteenth,
    clip_sixteen]
  rfl

/-- The stack of sixteen tiles holds the first group's eight and then the second's. -/
theorem stack_at (w w' : ℕ → IVec S8x128 32) (p s : Fin 128) :
    stackTiles w w' (ix2 p s) = (if p.val / 8 < 8 then w (p.val / 8) else w' (p.val / 8 - 8)) (ix2 ⟨p.val % 8, by omega⟩ s) :=
  concatenate_ofFn_apply (0 : Fin S128x128.rank) (fun n : Fin 16 => if n.val < 8 then w n.val else w' (n.val - 8)) _ rfl 8 rfl
    (ix2 p s) ⟨p.val / 8, by omega⟩ rfl (ix2 ⟨p.val % 8, by omega⟩ s) rfl (fun b hb => by
      match b with
      | ⟨0, _⟩ => exact absurd rfl hb
      | ⟨1, _⟩ => rfl)

/-- The packed tile is the stack cut to bytes, with the sign bits flipped, and transposed. -/
theorem pack_at (w w' : ℕ → IVec S8x128 32) (z : Fin 1) (s p : Fin 128)  :
    packTiles w w' (ix3 z s p) = IntOp.xori (BitVec.setWidth 8 (stackTiles w w' (ix2 p s))) 136#8 := by
  pointwise [packTiles]

/-- An entry of a tile is what the scratch holds at the tile's place. -/
theorem tile_at (arg6 : Memref sig .tc .vmem S8x256x256 .f32) (H : Stores Ideal) (h : Fin 2) (g : Fin 16) (o : Fin 2) (r : ℕ)
    (a : Fin 8) (s : Fin 128) :
    tile arg6 H h g o r (ix2 a s)
      = View.canon H (ix3 (Fin.ofNat 8 r) ⟨16 * g.val + 8 * o.val + a.val, by omega⟩ ⟨128 * h.val + s.val, by omega⟩) := by
  unfold tile
  refine (tile_cast _ _ _).trans ?_
  rw [View.readCov_eq_canon']
  refine congrArg (View.canon H) (funext fun b => Fin.ext ?_)
  match b with
  | ⟨0, _⟩ => rfl
  | ⟨1, _⟩ =>
    show 16 * g.val + 8 * o.val + 1 * a.val = 16 * g.val + 8 * o.val + a.val
    omega
  | ⟨2, _⟩ =>
    show 128 * h.val + 1 * s.val = 128 * h.val + s.val
    omega

/-! ## A point's blocks at an entry -/

/-- Row `p` of slab `r`, column `s`: the product of the rotation's row with that column's slab. -/
def slabAt (x0 : Vec Ideal S8x256x256 .bf16) (x1 : Vec Ideal S1x16x8x16x512 .bf16) (r : Fin 8) (p : Fin 256) (s : Fin 512) : EReal :=
  ∑ k : Fin 256, x0 (ix3 r p k) * x1 (ix5 0 ⟨k.val / 16, by omega⟩ r ⟨k.val % 16, by omega⟩ s)

/-- Value `t` of group `g` at column `s` of the block, before normalisation. -/
def valAt (x0 : Vec Ideal S8x256x256 .bf16) (x1 : Vec Ideal S1x16x8x16x512 .bf16) (g : Fin 16) (s : Fin 512) (t : ℕ) : EReal :=
  stages 3 (fun r => slabAt x0 x1 (Fin.ofNat 8 r) ⟨16 * g.val + 8 * (t % 2) + t % 16 / 2, by omega⟩ s) (t / 16)

/-- The scale of group `g` at column `s`. -/
def scaleAt (x0 : Vec Ideal S8x256x256 .bf16) (x1 : Vec Ideal S1x16x8x16x512 .bf16) (g : Fin 16) (s : Fin 512) : EReal :=
  scaleOf (amp (valAt x0 x1 g s) * (Cert.Words.norm : EReal))

/-- The byte of values `2 t` and `2 t + 1` of group `g` at column `s`. -/
def byteAt (x0 : Vec Ideal S8x256x256 .bf16) (x1 : Vec Ideal S1x16x8x16x512 .bf16) (g : Fin 16) (s : Fin 512) (t : ℕ) : BitVec 8 :=
  byteK (clip7 (valAt x0 x1 g s (2 * t) * Ideal.div (Cert.Words.norm : EReal) (scaleAt x0 x1 g s)))
    (clip7 (valAt x0 x1 g s (2 * t + 1) * Ideal.div (Cert.Words.norm : EReal) (scaleAt x0 x1 g s)))

/-- The products of chunk `q`, as the scratch's contents. -/
def slabFun (x0 : Vec Ideal S8x256x256 .bf16) (x1 : Vec Ideal S1x16x8x16x512 .bf16) (q : Fin 2) : Vec Ideal S8x256x256 .f32 :=
  fun y => slabAt x0 x1 (y 0) (y 1) ⟨256 * q.val + (y 2).val, by have : (y 2).val < 256 := (y 2).isLt; omega⟩

section
variable (arg2 : Memref sig .tc .vmem S8x256x256 .bf16) (harg2 : arg2.IsWhole)
  (arg3 : Memref sig .tc .vmem S1x16x8x16x512 .bf16) (harg3 : arg3.IsWhole)
  (x0 : Vec Ideal S8x256x256 .bf16) (x1 : Vec Ideal S1x16x8x16x512 .bf16)

/-- The store of a slab holds the slab's product at the chunk's columns. -/
theorem slabPiece_at (q : Fin 2) (r : Fin 8) (z : Fin 1) (p n : Fin 256) :
    (slabPiece (F := Ideal) arg2 harg2 arg3 harg3 x0 x1 q r).2 (ix3 z p n)
      = slabAt x0 x1 r p ⟨256 * q.val + n.val, by omega⟩ := by
  refine (slab_product _ _ z p n).trans ?_
  refine Finset.sum_congr rfl fun k _ => ?_
  rw [Memref.IsWhole.readAt_unread, Memref.IsWhole.readAt_unread]
  refine congrArg₂ (· * ·) (congrArg x0 (funext fun b => Fin.ext ?_)) (congrArg x1 (funext fun b => Fin.ext ?_))
  · match b with
    | ⟨0, _⟩ => rfl
    | ⟨1, _⟩ => show 0 + 1 * p.val = p.val; omega
    | ⟨2, _⟩ => show 0 + 1 * k.val = k.val; omega
  · match b with
    | ⟨0, _⟩ => rfl
    | ⟨1, _⟩ => show 0 + 1 * (k.val / 16) = k.val / 16; omega
    | ⟨2, _⟩ => rfl
    | ⟨3, _⟩ => show 0 + 1 * (k.val % 16) = k.val % 16; omega
    | ⟨4, _⟩ => show 256 * q.val + 1 * n.val = 256 * q.val + n.val; omega

/-- Every slab store of chunk `q` is one of eight. -/
theorem mem_slabs (q : Fin 2) {P : View.Piece (Elt Ideal) S8x256x256 .f32} (h : P ∈ slabs (F := Ideal) arg2 harg2 arg3 harg3 x0 x1 q) :
    ∃ r, P = slabPiece arg2 harg2 arg3 harg3 x0 x1 q r := by
  simp only [slabs, List.mem_cons, List.not_mem_nil, or_false] at h
  rcases h with h | h | h | h | h | h | h | h <;> exact ⟨_, h⟩

/-- Every slab is stored for each chunk. -/
theorem slabs_mem (q : Fin 2) (r : Fin 8) : slabPiece arg2 harg2 arg3 harg3 x0 x1 q r ∈ slabs (F := Ideal) arg2 harg2 arg3 harg3 x0 x1 q := by
  simp only [slabs, List.mem_cons, List.not_mem_nil, or_false]
  fin_cases r <;> simp

/-- The scratch after the products of chunk `q`, whatever was stored before, at an entry. -/
theorem scratch_at (q : Fin 2) (L : Stores Ideal) (r : Fin 8) (p n : Fin 256) :
    View.canon (slabs (F := Ideal) arg2 harg2 arg3 harg3 x0 x1 q ++ L) (ix3 r p n) = slabAt x0 x1 r p ⟨256 * q.val + n.val, by omega⟩ := by
  refine View.canon_append_of_pieces (slabFun x0 x1 q) L _ ?_ (ix3 r p n) ⟨_, slabs_mem arg2 harg2 arg3 harg3 x0 x1 q r, ?_⟩
  · intro P hP x
    obtain ⟨r, rfl⟩ := mem_slabs arg2 harg2 arg3 harg3 x0 x1 q hP
    obtain ⟨z, a, b, rfl⟩ : ∃ (z : Fin 1) (a b : Fin 256), x = ix3 z a b := ⟨x 0, x 1, x 2, eq_ix3 x⟩
    refine (slabPiece_at arg2 harg2 arg3 harg3 x0 x1 q r z a b).trans ?_
    unfold slabFun
    congr 1
    · refine Fin.ext ?_
      show r.val = r.val + 1 * z.val
      omega
    · refine Fin.ext ?_
      show a.val = 0 + 1 * a.val
      omega
    · refine Fin.ext ?_
      show 256 * q.val + b.val = 256 * q.val + (0 + 1 * b.val)
      omega
  · rw [LoadRect.mem_set]
    intro a
    match a with
    | ⟨0, _⟩ => exact ⟨0, Nat.one_pos, by show r.val = r.val + 1 * 0; omega⟩
    | ⟨1, _⟩ => exact ⟨p.val, p.isLt, by show p.val = 0 + 1 * p.val; omega⟩
    | ⟨2, _⟩ => exact ⟨n.val, n.isLt, by show n.val = 0 + 1 * n.val; omega⟩

/-- The scratch's stores when chunk `q` is quantised. -/
def held (q : Fin 2) : Stores Ideal :=
  if q = 0 then slabs arg2 harg2 arg3 harg3 x0 x1 0 else slabs arg2 harg2 arg3 harg3 x0 x1 1 ++ slabs arg2 harg2 arg3 harg3 x0 x1 0

/-- The scratch holds the products of the chunk that is quantised. -/
theorem held_at (q : Fin 2) (r : Fin 8) (p n : Fin 256) :
    View.canon (held arg2 harg2 arg3 harg3 x0 x1 q) (ix3 r p n) = slabAt x0 x1 r p ⟨256 * q.val + n.val, by omega⟩ := by
  unfold held
  split
  · subst q
    have := scratch_at arg2 harg2 arg3 harg3 x0 x1 0 [] r p n
    rwa [List.append_nil] at this
  · obtain rfl : q = 1 := by omega
    exact scratch_at arg2 harg2 arg3 harg3 x0 x1 1 _ r p n

variable (arg6 : Memref sig .tc .vmem S8x256x256 .f32)

/-- A group's values, read from the scratch, are those of the two blocks. -/
theorem groupVal_at (q h : Fin 2) (g : Fin 16) (s : Fin 128) (t : ℕ) :
    groupVal (tile arg6 (held arg2 harg2 arg3 harg3 x0 x1 q) h g 0) (tile arg6 (held arg2 harg2 arg3 harg3 x0 x1 q) h g 1) s t
      = valAt x0 x1 g ⟨256 * q.val + 128 * h.val + s.val, by omega⟩ t := by
  unfold groupVal valAt
  refine congrArg (fun f => stages 3 f (t / 16)) (funext fun r => ?_)
  have key : ∀ o : Fin 2, t % 2 = o.val →
      tile arg6 (held arg2 harg2 arg3 harg3 x0 x1 q) h g o r (ix2 ⟨t % 16 / 2, by omega⟩ s)
        = slabAt x0 x1 (Fin.ofNat 8 r) ⟨16 * g.val + 8 * (t % 2) + t % 16 / 2, by omega⟩ ⟨256 * q.val + 128 * h.val + s.val, by omega⟩ := by
    intro o ho
    rw [tile_at, held_at]
    congr 1
    · exact Fin.ext (by show 16 * g.val + 8 * o.val + t % 16 / 2 = 16 * g.val + 8 * (t % 2) + t % 16 / 2; omega)
    · exact Fin.ext (by show 256 * q.val + (128 * h.val + s.val) = 256 * q.val + 128 * h.val + s.val; omega)
  by_cases h2 : t % 2 = 0
  · rw [if_pos h2]; exact key 0 h2
  · rw [if_neg h2]; exact key 1 (by show t % 2 = 1; omega)

/-- A group's scales, read from the scratch, are those of the two blocks. -/
theorem groupScale_at (q h : Fin 2) (g : Fin 16) (z : Fin 1) (s : Fin 128) :
    scaleTile (peak (tile arg6 (held arg2 harg2 arg3 harg3 x0 x1 q) h g 0) (tile arg6 (held arg2 harg2 arg3 harg3 x0 x1 q) h g 1)) (ix2 z s)
      = scaleAt x0 x1 g ⟨256 * q.val + 128 * h.val + s.val, by omega⟩ := by
  rw [scaleTile_at, peak_at, scaleAt]
  congr 3
  exact funext fun t => groupVal_at arg2 harg2 arg3 harg3 x0 x1 arg6 q h g s t

/-- A group's bytes, read from the scratch, are those of the two blocks. -/
theorem groupByte_at (q h : Fin 2) (g : Fin 16) (i : ℕ) (a : Fin 8) (s : Fin 128) :
    IntOp.xori (BitVec.setWidth 8 (groupWord (tile arg6 (held arg2 harg2 arg3 harg3 x0 x1 q) h g 0)
        (tile arg6 (held arg2 harg2 arg3 harg3 x0 x1 q) h g 1) i (ix2 a s))) 136#8
      = byteAt x0 x1 g ⟨256 * q.val + 128 * h.val + s.val, by omega⟩ (8 * i + a.val) := by
  unfold groupWord
  rw [word_at, inv_at, groupScale_at, bfly_at, bfly_at, byteAt]
  rw [← groupVal_at arg2 harg2 arg3 harg3 x0 x1 arg6 q h g s (2 * (8 * i + a.val)),
    ← groupVal_at arg2 harg2 arg3 harg3 x0 x1 arg6 q h g s (2 * (8 * i + a.val) + 1)]
  have e1 : 2 * (8 * i + a.val) % 2 = 0 := by omega
  have e2 : (2 * (8 * i + a.val) + 1) % 2 = 1 := by omega
  have e3 : 2 * (8 * i + a.val) % 16 / 2 = a.val := by omega
  have e4 : (2 * (8 * i + a.val) + 1) % 16 / 2 = a.val := by omega
  have e5 : 2 * (8 * i + a.val) / 16 = i := by omega
  have e6 : (2 * (8 * i + a.val) + 1) / 16 = i := by omega
  simp only [groupVal, e1, e2, e3, e4, e5, e6, if_true, Fin.eta, one_ne_zero, if_false]

end

section
variable (c : Dev nD) (i : grid0.Coords) (arg2 : Memref sig .tc .vmem S8x256x256 .bf16) (harg2 : arg2.IsWhole)
  (arg3 : Memref sig .tc .vmem S1x16x8x16x512 .bf16) (harg3 : arg3.IsWhole) (arg4 : Memref sig .tc .vmem S1x512x1024 .i8)
  (harg4 : arg4.IsWhole) (arg5 : Memref sig .tc .vmem S1x16x512 .f32) (harg5 : arg5.IsWhole)
  (arg6 : Memref sig .tc .vmem S8x256x256 .f32) (harg6 : arg6.IsWhole)
  (x0 : Vec Ideal S8x256x256 .bf16) (x1 : Vec Ideal S1x16x8x16x512 .bf16)

/-- Every store of scales is one group's. -/
theorem mem_scales {P : View.Piece (Elt Ideal) S1x16x512 .f32}
    (hP : P ∈ (kernelRun0_A (F := Ideal) c i arg2 harg2 arg3 harg3 arg4 harg4 arg5 harg5 arg6 harg6 x0 x1).2.1) :
    ∃ q h g, P = scalePiece arg6 (held arg2 harg2 arg3 harg3 x0 x1 q) q h g := by
  have one : ∀ (q h : Fin 2) (H : Stores Ideal), held arg2 harg2 arg3 harg3 x0 x1 q = H → P ∈ halfScales arg6 H q h →
      ∃ q h g, P = scalePiece arg6 (held arg2 harg2 arg3 harg3 x0 x1 q) q h g := by
    rintro q h H rfl hm
    simp only [halfScales, List.mem_cons, List.not_mem_nil, or_false] at hm
    rcases hm with e | e | e | e | e | e | e | e | e | e | e | e | e | e | e | e <;> exact ⟨_, _, _, e⟩
  rw [scales_eq, first_eq, second_eq] at hP
  rcases List.mem_append.1 hP with hP | hP
  · exact one 1 1 _ rfl hP
  rcases List.mem_append.1 hP with hP | hP
  · exact one 1 0 _ rfl hP
  rcases List.mem_append.1 hP with hP | hP
  · exact one 0 1 _ rfl hP
  · exact one 0 0 _ rfl hP

/-- Every store of codes is one group pair's. -/
theorem mem_codes {P : View.Piece (Elt Ideal) S1x512x1024 .i8}
    (hP : P ∈ (kernelRun0_A (F := Ideal) c i arg2 harg2 arg3 harg3 arg4 harg4 arg5 harg5 arg6 harg6 x0 x1).1) :
    ∃ q h p, P = codePiece arg6 (held arg2 harg2 arg3 harg3 x0 x1 q) q h p := by
  have one : ∀ (q h : Fin 2) (H : Stores Ideal), held arg2 harg2 arg3 harg3 x0 x1 q = H → P ∈ halfCodes arg6 H q h →
      ∃ q h p, P = codePiece arg6 (held arg2 harg2 arg3 harg3 x0 x1 q) q h p := by
    rintro q h H rfl hm
    simp only [halfCodes, List.mem_cons, List.not_mem_nil, or_false] at hm
    rcases hm with e | e | e | e | e | e | e | e <;> exact ⟨_, _, _, e⟩
  rw [codes_eq, first_eq, second_eq] at hP
  rcases List.mem_append.1 hP with hP | hP
  · exact one 1 1 _ rfl hP
  rcases List.mem_append.1 hP with hP | hP
  · exact one 1 0 _ rfl hP
  rcases List.mem_append.1 hP with hP | hP
  · exact one 0 1 _ rfl hP
  · exact one 0 0 _ rfl hP

/-- The block of scales, as a function of its entry. -/
def scaleBlock (x0 : Vec Ideal S8x256x256 .bf16) (x1 : Vec Ideal S1x16x8x16x512 .bf16) : Vec Ideal S1x16x512 .f32 :=
  fun y => scaleAt x0 x1 (y 1) (y 2)

/-- The block of codes, as a function of its entry. -/
def codeBlock (x0 : Vec Ideal S8x256x256 .bf16) (x1 : Vec Ideal S1x16x8x16x512 .bf16) : Vec Ideal S1x512x1024 .i8 :=
  fun y => byteAt x0 x1 ⟨(y 2).val / 64, by have : (y 2).val < 1024 := (y 2).isLt; omega⟩ (y 1) ((y 2).val % 64)

/-- Every store of scales holds the block of scales at its place. -/
theorem scalePiece_at (q h : Fin 2) (g : Fin 16) (x) :
    (scalePiece arg6 (held arg2 harg2 arg3 harg3 x0 x1 q) q h g).2 x
      = scaleBlock x0 x1 ((scalePiece arg6 (held arg2 harg2 arg3 harg3 x0 x1 q) q h g).1.emb x) := by
  obtain ⟨z, z', s, rfl⟩ : ∃ (z z' : Fin 1) (s : Fin 128), x = ix3 z z' s := ⟨x 0, x 1, x 2, eq_ix3 x⟩
  refine ((scale_cast _ z z' s).trans (groupScale_at arg2 harg2 arg3 harg3 x0 x1 arg6 q h g 0 s)).trans ?_
  unfold scaleBlock
  congr 1
  · exact Fin.ext (by show g.val = g.val + 1 * z'.val; omega)
  · exact Fin.ext (by show 256 * q.val + 128 * h.val + s.val = 256 * q.val + 128 * h.val + 1 * s.val; omega)

/-- Every store of bytes holds the block of codes at its place. -/
theorem codePiece_at (q h : Fin 2) (p : Fin 8) (x) :
    (codePiece arg6 (held arg2 harg2 arg3 harg3 x0 x1 q) q h p).2 x
      = codeBlock x0 x1 ((codePiece arg6 (held arg2 harg2 arg3 harg3 x0 x1 q) q h p).1.emb x) := by
  obtain ⟨z, s, j, rfl⟩ : ∃ (z : Fin 1) (s j : Fin 128), x = ix3 z s j := ⟨x 0, x 1, x 2, eq_ix3 x⟩
  refine (pack_at _ _ z s j).trans ?_
  rw [stack_at]
  have fin : ∀ (o : Fin 2) (k : ℕ), j.val = 64 * o.val + 8 * k + j.val % 8 → k < 8 →
      IntOp.xori (BitVec.setWidth 8 (groupWord (tile arg6 (held arg2 harg2 arg3 harg3 x0 x1 q) h (pairOf p o) 0)
        (tile arg6 (held arg2 harg2 arg3 harg3 x0 x1 q) h (pairOf p o) 1) k (ix2 ⟨j.val % 8, by omega⟩ s))) 136#8
      = codeBlock x0 x1 ((codePiece arg6 (held arg2 harg2 arg3 harg3 x0 x1 q) q h p).1.emb (ix3 z s j)) := by
    intro o k e hk
    rw [groupByte_at]
    unfold codeBlock
    congr 1
    · exact Fin.ext (by show 2 * p.val + o.val = (128 * p.val + 1 * j.val) / 64; omega)
    · exact Fin.ext (by show 256 * q.val + 128 * h.val + s.val = 256 * q.val + 128 * h.val + 1 * s.val; omega)
    · show 8 * k + j.val % 8 = (128 * p.val + 1 * j.val) % 64
      omega
  by_cases h8 : j.val / 8 < 8
  · rw [if_pos h8]
    exact fin 0 (j.val / 8) (by show j.val = 64 * 0 + 8 * (j.val / 8) + j.val % 8; omega) h8
  · rw [if_neg h8]
    exact fin 1 (j.val / 8 - 8) (by show j.val = 64 * 1 + 8 * (j.val / 8 - 8) + j.val % 8; omega) (by omega)

/-- What a point leaves in its block of scales. -/
theorem scales_at (y : S1x16x512.Idx) :
    View.canon (kernelRun0_A (F := Ideal) c i arg2 harg2 arg3 harg3 arg4 harg4 arg5 harg5 arg6 harg6 x0 x1).2.1 y = scaleBlock x0 x1 y := by
  refine View.canon_apply_of_pieces (scaleBlock x0 x1) _ ?_ y (cover0_A_3 c i arg2 harg2 arg3 harg3 arg4 harg4 arg5 harg5 arg6 harg6 x0 x1 y)
  intro P hP x
  obtain ⟨q, h, g, rfl⟩ := mem_scales c i arg2 harg2 arg3 harg3 arg4 harg4 arg5 harg5 arg6 harg6 x0 x1 hP
  exact scalePiece_at arg2 harg2 arg3 harg3 arg6 x0 x1 q h g x

/-- What a point leaves in its block of codes. -/
theorem codes_at (y : S1x512x1024.Idx) :
    View.canon (kernelRun0_A (F := Ideal) c i arg2 harg2 arg3 harg3 arg4 harg4 arg5 harg5 arg6 harg6 x0 x1).1 y = codeBlock x0 x1 y := by
  refine View.canon_apply_of_pieces (codeBlock x0 x1) _ ?_ y (cover0_A_2 c i arg2 harg2 arg3 harg3 arg4 harg4 arg5 harg5 arg6 harg6 x0 x1 y)
  intro P hP x
  obtain ⟨q, h, p, rfl⟩ := mem_codes c i arg2 harg2 arg3 harg3 arg4 harg4 arg5 harg5 arg6 harg6 x0 x1 hP
  exact codePiece_at arg2 harg2 arg3 harg3 arg6 x0 x1 q h p x

end

end Cert.KernelIdeal.Block

end

end
-- ==== Proof.Stage.lean ====
module

public import proofs.«01_k».proof.Proof.Quantise
public import Idealize.ShloMosaic.Lib.Pointwise
public import Idealize.ShloMosaic.Lib.Pipeline.Value
public import Mathlib.Tactic.Ring

@[expose] public section

/-! # One butterfly stage of the reference, at an index -/

noncomputable section

namespace Cert.RefSide

open Idealize.ShloMosaic Cert.Hadamard

section
variable (n N M m : ℕ)

/-- The lower or the upper halves of a stage's pairs: entry `P`, `h` of half `Q`. -/
theorem half_at (Q : Fin 2) (off : Fin 5 → ℕ) (hoff : off = ![0, 0, Q.val, 0, 0])
    (v : (⟨5, ![12, N, 2, M, 5632]⟩ : Shape).Idx → EReal)
    (hs : (⟨5, ![12, N, 2, M, 5632]⟩ : Shape).Slices off ⟨5, ![12, N, 1, M, 5632]⟩)
    (hc : (⟨5, ![12, N, 1, M, 5632]⟩ : Shape).ShapeCasts ⟨4, ![12, N, M, 5632]⟩)
    (b : Fin 12) (P : Fin N) (h : Fin M) (s : Fin 5632) :
    shapeCast (⟨4, ![12, N, M, 5632]⟩ : Shape) (extractStridedSlice (⟨5, ![12, N, 1, M, 5632]⟩ : Shape) off v hs) hc (ix4 b P h s)
      = v (ix5 b P Q h s) := by
  subst hoff
  refine (shapeCast_apply _ hc _ (ix5 b P (0 : Fin 1) h s) ?_).trans ?_
  · rw [Shape.rowMajor_val_five, Shape.rowMajor_val_four]
    show (((b.val * N + P.val) * 1 + 0) * M + h.val) * 5632 + s.val = ((b.val * N + P.val) * M + h.val) * 5632 + s.val
    rw [Nat.mul_one, Nat.add_zero]
  · refine extractStridedSlice_apply _ v hs _ _ fun a => ?_
    match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm

/-- Sums and differences put back side by side, at an entry of the column. -/
theorem column_at (v w : (⟨4, ![12, N, M, 5632]⟩ : Shape).Idx → EReal) (hNM : N * 2 * M = 2048)
    (hb : (⟨4, ![12, N, M, 5632]⟩ : Shape).BroadcastsInDim ⟨5, ![12, N, 1, M, 5632]⟩ ![0, 1, 3, 4])
    (hc : Shape.Concatenates [(⟨5, ![12, N, 1, M, 5632]⟩ : Shape), ⟨5, ![12, N, 1, M, 5632]⟩] ⟨5, ![12, N, 2, M, 5632]⟩ 2)
    (h1 : (⟨5, ![12, N, 2, M, 5632]⟩ : Shape).ShapeCasts ⟨3, ![12, 2048, 5632]⟩)
    (b : Fin 12) (d : Fin 2048) (s : Fin 5632) (P : Fin N) (Q : Fin 2) (h : Fin M) (hd : d.val = (P.val * 2 + Q.val) * M + h.val) :
    shapeCast (⟨3, ![12, 2048, 5632]⟩ : Shape)
      (concatenate (⟨5, ![12, N, 2, M, 5632]⟩ : Shape) 2
        [⟨⟨5, ![12, N, 1, M, 5632]⟩, broadcastInDim (⟨5, ![12, N, 1, M, 5632]⟩ : Shape) ![0, 1, 3, 4] hb v⟩,
         ⟨⟨5, ![12, N, 1, M, 5632]⟩, broadcastInDim (⟨5, ![12, N, 1, M, 5632]⟩ : Shape) ![0, 1, 3, 4] hb w⟩] hc) h1 (ix3 b d s)
      = if Q = 0 then v (ix4 b P h s) else w (ix4 b P h s) := by
  refine (shapeCast_apply _ h1 _ (ix5 b P Q h s) ?_).trans ?_
  · rw [Shape.rowMajor_val_three, Shape.rowMajor_val_five]
    show (((b.val * N + P.val) * 2 + Q.val) * M + h.val) * 5632 + s.val = (b.val * 2048 + d.val) * 5632 + s.val
    rw [hd, ← hNM]; ring
  have rd : ∀ (x : (⟨4, ![12, N, M, 5632]⟩ : Shape).Idx → EReal),
      broadcastInDim (⟨5, ![12, N, 1, M, 5632]⟩ : Shape) ![0, 1, 3, 4] hb x (ix5 b P (0 : Fin 1) h s) = x (ix4 b P h s) := by
    intro x
    have hbl := b.isLt; have hPl := P.isLt; have hhl := h.isLt; have hsl := s.isLt
    refine broadcastInDim_apply _ hb x _ _ fun a => ?_
    match a with
    | ⟨0, _⟩ => rfl
    | ⟨1, _⟩ =>
      show P.val = if N = 1 then 0 else P.val
      split <;> omega
    | ⟨2, _⟩ =>
      show h.val = if M = 1 then 0 else h.val
      split <;> omega
    | ⟨3, _⟩ => rfl
  by_cases hQ : Q = 0
  · rw [if_pos hQ]
    subst hQ
    refine (concatenate_pair_apply_left (t := ⟨5, ![12, N, 2, M, 5632]⟩) (2 : Fin 5) _ _ hc (ix5 b P (0 : Fin 2) h s) rfl (ix5 b P (0 : Fin 1) h s) fun a => ?_).trans (rd v)
    match a with
    | ⟨0, _⟩ => rfl
    | ⟨1, _⟩ => rfl
    | ⟨2, _⟩ => rfl
    | ⟨3, _⟩ => rfl
    | ⟨4, _⟩ => rfl
  · rw [if_neg hQ]
    obtain rfl : Q = 1 := by omega
    refine (concatenate_pair_apply_right (t := ⟨5, ![12, N, 2, M, 5632]⟩) (2 : Fin 5) _ _ hc (ix5 b P (1 : Fin 2) h s) rfl rfl (ix5 b P (0 : Fin 1) h s) ?_ ?_).trans (rd w)
    · intro a ha
      match a with
      | ⟨0, _⟩ => rfl
      | ⟨1, _⟩ => rfl
      | ⟨2, _⟩ => exact absurd rfl ha
      | ⟨3, _⟩ => rfl
      | ⟨4, _⟩ => rfl
    · rfl

/-- A column regrouped for the next stage, at an index. -/
theorem grouped_at (hnm : n * 2 * m = 2048) (v : (⟨3, ![12, 2048, 5632]⟩ : Shape).Idx → EReal)
    (h2 : (⟨3, ![12, 2048, 5632]⟩ : Shape).ShapeCasts ⟨5, ![12, n, 2, m, 5632]⟩)
    (b : Fin 12) (p : Fin n) (q : Fin 2) (u : Fin m) (s : Fin 5632) (d : Fin 2048) (hd : d.val = (p.val * 2 + q.val) * m + u.val) :
    shapeCast (⟨5, ![12, n, 2, m, 5632]⟩ : Shape) v h2 (ix5 b p q u s) = v (ix3 b d s) := by
  refine shapeCast_apply _ h2 _ (ix3 b d s) ?_
  rw [Shape.rowMajor_val_three, Shape.rowMajor_val_five]
  show (b.val * 2048 + d.val) * 5632 + s.val = (((b.val * n + p.val) * 2 + q.val) * m + u.val) * 5632 + s.val
  rw [hd, ← hnm]; ring

/-- A stage on values that are `k` stages' results gives `k + 1` stages' results. -/
theorem stages_step (k : ℕ) (x : ℕ → EReal) (P h i0 i1 i : ℕ) (Q : Fin 2) (hh : h < 2 ^ k) (e0 : i0 = P * 2 ^ (k + 1) + h)
    (e1 : i1 = P * 2 ^ (k + 1) + 2 ^ k + h) (e : i = P * 2 ^ (k + 1) + Q.val * 2 ^ k + h) :
    (if Q = 0 then stages k x i0 + stages k x i1 else stages k x i0 - stages k x i1) = stages (k + 1) x i := by
  have hp : 0 < 2 ^ k := Nat.two_pow_pos k
  have bit : i.testBit k = decide (Q = 1) := by
    rw [Nat.testBit_eq_decide_div_mod_eq, e]
    have : (P * 2 ^ (k + 1) + Q.val * 2 ^ k + h) / 2 ^ k = 2 * P + Q.val := by
      rw [show P * 2 ^ (k + 1) + Q.val * 2 ^ k + h = h + 2 ^ k * (2 * P + Q.val) by rw [pow_succ]; ring, Nat.add_mul_div_left _ _ hp,
        Nat.div_eq_of_lt hh, Nat.zero_add]
    rw [this]
    rcases (by omega : Q = 0 ∨ Q = 1) with rfl | rfl <;> simp
  rw [stages, bit]
  rcases (by omega : Q = 0 ∨ Q = 1) with rfl | rfl
  · rw [if_pos rfl]
    have a0 : i = i0 := by rw [e, e0]; simp
    have a1 : i + 2 ^ k = i1 := by rw [e, e1]; simp; ring
    rw [a0] at a1 ⊢
    rw [a1]; simp
  · rw [if_neg (by decide)]
    have a1 : i = i1 := by rw [e, e1]; simp
    have a0 : i - 2 ^ k = i0 := by rw [e, e0]; simp; omega
    rw [a0, a1]; simp

/-- The stage at distance `M = 2 ^ k` as the reference writes it, at an entry of the column: it takes `k` stages' results to
    `k + 1` stages' results. -/
theorem stage_at (k : ℕ) (hM : M = 2 ^ k) (hNM : N * 2 * M = 2048) (x : Fin 12 → Fin 5632 → ℕ → EReal)
    (v : FVec Ideal (⟨5, ![12, N, 2, M, 5632]⟩ : Shape) .f32)
    (hv : ∀ b (P : Fin N) (Q : Fin 2) (h : Fin M) s, v (ix5 b P Q h s) = stages k (x b s) ((P.val * 2 + Q.val) * M + h.val))
    (hs0 : (⟨5, ![12, N, 2, M, 5632]⟩ : Shape).Slices ![0, 0, 0, 0, 0] ⟨5, ![12, N, 1, M, 5632]⟩)
    (hs1 : (⟨5, ![12, N, 2, M, 5632]⟩ : Shape).Slices ![0, 0, 1, 0, 0] ⟨5, ![12, N, 1, M, 5632]⟩)
    (hc0 hc1 : (⟨5, ![12, N, 1, M, 5632]⟩ : Shape).ShapeCasts ⟨4, ![12, N, M, 5632]⟩)
    (lo hi : FVec Ideal (⟨4, ![12, N, M, 5632]⟩ : Shape) .f32)
    (hlo : lo = shapeCast (⟨4, ![12, N, M, 5632]⟩ : Shape) (extractStridedSlice (⟨5, ![12, N, 1, M, 5632]⟩ : Shape) ![0, 0, 0, 0, 0] v hs0) hc0)
    (hhi : hi = shapeCast (⟨4, ![12, N, M, 5632]⟩ : Shape) (extractStridedSlice (⟨5, ![12, N, 1, M, 5632]⟩ : Shape) ![0, 0, 1, 0, 0] v hs1) hc1)
    (hb : (⟨4, ![12, N, M, 5632]⟩ : Shape).BroadcastsInDim ⟨5, ![12, N, 1, M, 5632]⟩ ![0, 1, 3, 4])
    (hc : Shape.Concatenates [(⟨5, ![12, N, 1, M, 5632]⟩ : Shape), ⟨5, ![12, N, 1, M, 5632]⟩] ⟨5, ![12, N, 2, M, 5632]⟩ 2)
    (h1 : (⟨5, ![12, N, 2, M, 5632]⟩ : Shape).ShapeCasts ⟨3, ![12, 2048, 5632]⟩)
    (b : Fin 12) (d : Fin 2048) (s : Fin 5632) :
    shapeCast (⟨3, ![12, 2048, 5632]⟩ : Shape)
      (concatenate (⟨5, ![12, N, 2, M, 5632]⟩ : Shape) 2
        [⟨⟨5, ![12, N, 1, M, 5632]⟩, broadcastInDim (⟨5, ![12, N, 1, M, 5632]⟩ : Shape) ![0, 1, 3, 4] hb (addf lo hi)⟩,
         ⟨⟨5, ![12, N, 1, M, 5632]⟩, broadcastInDim (⟨5, ![12, N, 1, M, 5632]⟩ : Shape) ![0, 1, 3, 4] hb (subf lo hi)⟩] hc) h1 (ix3 b d s)
      = stages (k + 1) (x b s) d.val := by
  have hd := d.isLt
  have hM0 : 0 < M := hM ▸ Nat.two_pow_pos k
  have hP : d.val / M / 2 < N := by
    rw [Nat.div_div_eq_div_mul, Nat.div_lt_iff_lt_mul (by omega)]
    have : N * (M * 2) = 2048 := by rw [← hNM]; ring
    omega
  have e1 := Nat.div_add_mod d.val M
  have e2 := Nat.div_add_mod (d.val / M) 2
  have ed : d.val = (d.val / M / 2 * 2 + d.val / M % 2) * M + d.val % M := by
    rw [Nat.mul_comm (d.val / M / 2) 2, e2, Nat.mul_comm]; exact e1.symm
  rw [column_at N M (addf lo hi) (subf lo hi) hNM hb hc h1 b d s ⟨_, hP⟩ ⟨d.val / M % 2, Nat.mod_lt _ (by omega)⟩ ⟨d.val % M, Nat.mod_lt _ hM0⟩ ed]
  show (if _ then lo (ix4 b _ _ s) + hi (ix4 b _ _ s) else lo (ix4 b _ _ s) - hi (ix4 b _ _ s)) = _
  rw [hlo, hhi, half_at N M 0 ![0, 0, 0, 0, 0] rfl v hs0 hc0, half_at N M 1 ![0, 0, 1, 0, 0] rfl v hs1 hc1, hv, hv]
  refine stages_step k (x b s) (d.val / M / 2) (d.val % M) _ _ _ _ (by rw [← hM]; exact Nat.mod_lt _ hM0) ?_ ?_ ?_
  · show (d.val / M / 2 * 2 + 0) * M + d.val % M = _
    rw [pow_succ, ← hM]; ring
  · show (d.val / M / 2 * 2 + 1) * M + d.val % M = _
    rw [pow_succ, ← hM]; ring
  · rw [pow_succ, ← hM]
    exact ed.trans (by ring)

end

end Cert.RefSide

end

end
-- ==== Proof.Ref.lean ====
module

public import proofs.«01_k».proof.Proof.Stage
public import proofs.«01_k».proof.Proof.Words
public import proofs.«01_k».proof.Proof.Gen.ReferenceIdeal.Run
public import Idealize.ShloMosaic.Lib.Pointwise

@[expose] public section

set_option maxRecDepth 16384

/-! # The reference's two results, entry by entry -/

noncomputable section

namespace Cert.RefSide

open Idealize.ShloMosaic Idealize.ShloMosaic.StableHlo Cert.ReferenceIdeal Cert.ReferenceIdeal.Gen Cert.ReferenceIdeal.Value
open Cert.Hadamard Cert.Quantise

/-- Column `(b, s)` of the weights with the signs applied, zero past its end. -/
def col (W : FVec Ideal S12x2048x5632 .bf16) (sg : FVec Ideal S2048 .f32) (b : Fin 12) (s : Fin 5632) : ℕ → EReal := fun j =>
  if h : j < 2048 then W (ix3 b ⟨j, h⟩ s) * sg (ix1 ⟨j, h⟩) else 0

/-! ## Pieces of the reference over any array -/

/-- The signed weights at an entry. -/
theorem signed_at (W : FVec Ideal S12x2048x5632 .bf16) (sg : FVec Ideal S2048 .f32) (b : Fin 12) (d : Fin 2048) (s : Fin 5632) :
    mulf (extf .f32 W bitsLt_bf16_f32) (broadcastInDim S12x2048x5632 ![0, 1, 2] bcast_S1x2048x1_S12x2048x5632_0_1_2
      (broadcastInDim S1x2048x1 ![1] bcast_S2048_S1x2048x1_1 sg)) (ix3 b d s) = stages 0 (col W sg b s) d.val := by
  pointwise []
  rw [stages, col, dif_pos d.isLt]

/-- The normalised transform at an entry. -/
theorem normed_at (v : FVec Ideal S12x2048x5632 .f32) (b : Fin 12) (d : Fin 2048) (s : Fin 5632) :
    mulf v (broadcastInDim S12x2048x5632 ![] bcast_S_S12x2048x5632 (constant S_ .f32 0x3CB504F3#32)) (ix3 b d s)
      = v (ix3 b d s) * (Cert.Words.norm : EReal) := by
  pointwise []
  rw [Cert.Words.norm_eq]

/-- The split into groups of 128 at an entry. -/
theorem groups_at {α : Type} (v : S12x2048x5632.Idx → α) (b : Fin 12) (g : Fin 16) (i : Fin 128) (s : Fin 5632) :
    shapeCast S12x16x128x5632 v shapeCasts_S12x2048x5632_S12x16x128x5632 (ix4 b g i s) = v (ix3 b ⟨128 * g.val + i.val, by omega⟩ s) := by
  refine shapeCast_apply _ _ _ _ ?_
  rw [Shape.rowMajor_val_three, Shape.rowMajor_val_four]
  show (b.val * 2048 + (128 * g.val + i.val)) * 5632 + s.val = ((b.val * 16 + g.val) * 128 + i.val) * 5632 + s.val
  ring

/-- The groups put back into one axis, at an entry. -/
theorem ungroup_at {α : Type} (v : S12x16x128x5632.Idx → α) (b : Fin 12) (d : Fin 2048) (s : Fin 5632) :
    shapeCast S12x2048x5632 v shapeCasts_S12x16x128x5632_S12x2048x5632 (ix3 b d s)
      = v (ix4 b ⟨d.val / 128, by omega⟩ ⟨d.val % 128, by omega⟩ s) := by
  refine shapeCast_apply _ _ _ _ ?_
  rw [Shape.rowMajor_val_three, Shape.rowMajor_val_four]
  show ((b.val * 16 + d.val / 128) * 128 + d.val % 128) * 5632 + s.val = (b.val * 2048 + d.val) * 5632 + s.val
  have := Nat.div_add_mod d.val 128
  omega

/-- The split into pairs at an entry. -/
theorem pairs_at {α : Type} (v : S12x2048x5632.Idx → α) (b : Fin 12) (p : Fin 1024) (q : Fin 2) (s : Fin 5632) :
    shapeCast S12x1024x2x5632 v shapeCasts_S12x2048x5632_S12x1024x2x5632 (ix4 b p q s) = v (ix3 b ⟨2 * p.val + q.val, by omega⟩ s) := by
  refine shapeCast_apply _ _ _ _ ?_
  rw [Shape.rowMajor_val_three, Shape.rowMajor_val_four]
  show (b.val * 2048 + (2 * p.val + q.val)) * 5632 + s.val = ((b.val * 1024 + p.val) * 2 + q.val) * 5632 + s.val
  ring

/-- The quotient by the scale, rounded and clipped, at an entry. -/
theorem quant_at (v : FVec Ideal S12x16x128x5632 .f32) (sc : FVec Ideal S12x16x5632 .f32) (b : Fin 12) (g : Fin 16) (i : Fin 128)
    (s : Fin 5632) :
    (minimumf (broadcastInDim S12x16x128x5632 ![] bcast_S_S12x16x128x5632 (id (constant S_ .f32 0x40E00000#32)))
      (maximumf (broadcastInDim S12x16x128x5632 ![] bcast_S_S12x16x128x5632 (id (constant S_ .f32 0xC0E00000#32)))
        (Host.roundeven (Host.divf v (broadcastInDim S12x16x128x5632 ![0, 1, 2, 3] bcast_S12x16x1x5632_S12x16x128x5632_0_1_2_3
          (broadcastInDim S12x16x1x5632 ![0, 1, 3] bcast_S12x16x5632_S12x16x1x5632_0_1_3 sc))))) : FVec Ideal S12x16x128x5632 .f32)
      (ix4 b g i s) = clip7 (rnd (Ideal.div (v (ix4 b g i s)) (sc (ix3 b g s)))) := by
  pointwise []
  show min (Ideal.ofBits .f32 1088421888#32) (max (Ideal.ofBits .f32 3235905536#32) _) = _
  rw [Cert.Words.seven, Cert.Words.neg_seven]
  rfl

/-- The scale at an entry, from the group's largest absolute value. -/
theorem scale_at (a : FVec Ideal S12x16x5632 .f32) (b : Fin 12) (g : Fin 16) (s : Fin 5632) :
    (select (cmpf .oeq a (broadcastInDim S12x16x5632 ![] bcast_S_S12x16x5632 (constant S_ .f32 0x00000000#32)))
      (broadcastInDim S12x16x5632 ![] bcast_S_S12x16x5632 (constant S_ .f32 0x3F800000#32))
      (Host.divf a (broadcastInDim S12x16x5632 ![] bcast_S_S12x16x5632 (constant S_ .f32 0x40E00000#32))) : FVec Ideal S12x16x5632 .f32)
      (ix3 b g s) = scaleOf (a (ix3 b g s)) := by
  pointwise []
  rw [Cert.Words.seven]
  rfl

/-- The packed byte at an entry, from its two nibbles. -/
theorem codes_at (y : IVec S12x1024x2x5632 32) (b : Fin 12) (p : Fin 1024) (s : Fin 5632) :
    trunci 8 (ori (shapeCast _ (extractStridedSlice S12x1024x1x5632 ![0, 0, 0, 0] y slices_S12x1024x2x5632_S12x1024x1x5632_0_0_0_0)
        shapeCasts_S12x1024x1x5632_S12x1024x5632)
      (Host.shli (shapeCast _ (extractStridedSlice S12x1024x1x5632 ![0, 0, 1, 0] y slices_S12x1024x2x5632_S12x1024x1x5632_0_0_1_0)
        shapeCasts_S12x1024x1x5632_S12x1024x5632) (broadcastInDim S12x1024x5632 ![] bcast_S_S12x1024x5632 (constantI S_ 32 4#32))))
      natLt_8_32 (ix3 b p s) = BitVec.setWidth 8 (y (ix4 b p 0 s) ||| y (ix4 b p 1 s) <<< 4) := by
  pointwise []
  rfl

/-- The largest absolute value of a group at an entry. -/
theorem absmax_at (v : FVec Ideal S12x16x128x5632 .f32) (x : ℕ → EReal) (b : Fin 12) (g : Fin 16) (s : Fin 5632)
    (hx : ∀ i : Fin 128, v (ix4 b g i s) = x i.val) :
    Host.reduce FloatOps.maximumf (Host.absf v) (constant (F := Ideal) S_ .f32 0xFF800000#32) reducesTo_S12x16x128x5632_S12x16x5632_d2 h_S_
      (ix3 b g s) = amp x := by
  have red : S12x16x128x5632.Reduces [2] S12x16x5632 := by decide
  have e : Host.reduce FloatOps.maximumf (Host.absf v) (constant (F := Ideal) S_ .f32 0xFF800000#32) reducesTo_S12x16x128x5632_S12x16x5632_d2 h_S_
      (ix3 b g s) = (Finset.univ : Finset (Fin 128)).fold max (Ideal.ofBits .f32 4286578688#32) (fun i => absE (v (ix4 b g i s))) := by
    refine (Host.reduce_eq_fold_single (max : EReal → EReal → EReal) _ _ reducesTo_S12x16x128x5632_S12x16x5632_d2 red h_S_ _).trans ?_
    refine congrArg (fun f => (Finset.univ : Finset (Fin 128)).fold max (Ideal.ofBits .f32 4286578688#32) f) (funext fun i => ?_)
    show absE (v (red.lift (ix3 b g s) i)) = _
    refine congrArg (fun j => absE (v j)) (funext fun a => Fin.ext ?_)
    match a with
    | ⟨0, _⟩ => rfl
    | ⟨1, _⟩ => rfl
    | ⟨2, _⟩ => rfl
    | ⟨3, _⟩ => rfl
  rw [e]
  refine le_antisymm ?_ ?_
  · rw [Finset.fold_max_le]
    refine ⟨by rw [Cert.Words.bot]; exact bot_le, fun i _ => ?_⟩
    rw [hx]
    exact Finset.le_sup (f := fun i => absE (x i)) (Finset.mem_range.2 i.isLt)
  · refine Finset.sup_le fun t ht => ?_
    rw [Finset.le_fold_max]
    refine Or.inr ⟨⟨t, Finset.mem_range.1 ht⟩, Finset.mem_univ _, ?_⟩
    rw [hx]

/-- The nibble of a code at an entry. -/
theorem nib_at (z : FVec Ideal S12x16x128x5632 .f32) (b : Fin 12) (p : Fin 1024) (q : Fin 2) (s : Fin 5632) :
    shapeCast S12x1024x2x5632 (andi (extsi 32 (shapeCast S12x2048x5632 (trunci 8 (fptosi 32 z) natLt_8_32)
        shapeCasts_S12x16x128x5632_S12x2048x5632) natLt_8_32) (broadcastInDim S12x2048x5632 ![] bcast_S_S12x2048x5632 (constantI S_ 32 15#32)))
      shapeCasts_S12x2048x5632_S12x1024x2x5632 (ix4 b p q s)
      = nib (z (ix4 b ⟨(2 * p.val + q.val) / 128, by omega⟩ ⟨(2 * p.val + q.val) % 128, by omega⟩ s)) := by
  refine (pairs_at _ b p q s).trans ?_
  show BitVec.signExtend 32 (shapeCast S12x2048x5632 (trunci 8 (fptosi 32 z) natLt_8_32) shapeCasts_S12x16x128x5632_S12x2048x5632 _) &&& 15#32 = _
  rw [ungroup_at]
  rfl

/-! ## The reference's own arrays -/

variable (V0 : Valuation τ sig (Elt Ideal))

/-- The column of the launch contents. -/
def colV (b : Fin 12) (s : Fin 5632) : ℕ → EReal := col (V0 (Proc.devRef .tc main_arg0)) (V0 (Proc.devRef .tc main_arg1)) b s

/-- The signed weights. -/
theorem stage0 (b : Fin 12) (P : Fin 1024) (Q : Fin 2) (h : Fin 1) (s : Fin 5632) :
    res_main_v4 V0 (ix5 b P Q h s) = stages 0 (colV V0 b s) ((P.val * 2 + Q.val) * 1 + h.val) := by
  unfold res_main_v4
  exact (grouped_at 1024 1 rfl _ _ b P Q h s ⟨(P.val * 2 + Q.val) * 1 + h.val, by omega⟩ rfl).trans (signed_at _ _ b _ s)

/-- After the stage at distance 1. -/
theorem stage1 (b : Fin 12) (P : Fin 512) (Q : Fin 2) (h : Fin 2) (s : Fin 5632) :
    res_main_v15 V0 (ix5 b P Q h s) = stages 1 (colV V0 b s) ((P.val * 2 + Q.val) * 2 + h.val) := by
  unfold res_main_v15
  refine (grouped_at 512 2 rfl _ _ b P Q h s ⟨(P.val * 2 + Q.val) * 2 + h.val, by omega⟩ rfl).trans ?_
  exact stage_at 1024 1 0 rfl rfl (colV V0) (res_main_v4 V0) (stage0 V0) _ _ _ _ (res_main_v6 V0)
    (res_main_v8 V0) rfl rfl _ _ _ b _ s

/-- After the stage at distance 2. -/
theorem stage2 (b : Fin 12) (P : Fin 256) (Q : Fin 2) (h : Fin 4) (s : Fin 5632) :
    res_main_v26 V0 (ix5 b P Q h s) = stages 2 (colV V0 b s) ((P.val * 2 + Q.val) * 4 + h.val) := by
  unfold res_main_v26
  refine (grouped_at 256 4 rfl _ _ b P Q h s ⟨(P.val * 2 + Q.val) * 4 + h.val, by omega⟩ rfl).trans ?_
  exact stage_at 512 2 1 rfl rfl (colV V0) (res_main_v15 V0) (stage1 V0) _ _ _ _ (res_main_v17 V0)
    (res_main_v19 V0) rfl rfl _ _ _ b _ s

/-- After the stage at distance 4. -/
theorem stage3 (b : Fin 12) (P : Fin 128) (Q : Fin 2) (h : Fin 8) (s : Fin 5632) :
    res_main_v37 V0 (ix5 b P Q h s) = stages 3 (colV V0 b s) ((P.val * 2 + Q.val) * 8 + h.val) := by
  unfold res_main_v37
  refine (grouped_at 128 8 rfl _ _ b P Q h s ⟨(P.val * 2 + Q.val) * 8 + h.val, by omega⟩ rfl).trans ?_
  exact stage_at 256 4 2 rfl rfl (colV V0) (res_main_v26 V0) (stage2 V0) _ _ _ _ (res_main_v28 V0)
    (res_main_v30 V0) rfl rfl _ _ _ b _ s

/-- After the stage at distance 8. -/
theorem stage4 (b : Fin 12) (P : Fin 64) (Q : Fin 2) (h : Fin 16) (s : Fin 5632) :
    res_main_v48 V0 (ix5 b P Q h s) = stages 4 (colV V0 b s) ((P.val * 2 + Q.val) * 16 + h.val) := by
  unfold res_main_v48
  refine (grouped_at 64 16 rfl _ _ b P Q h s ⟨(P.val * 2 + Q.val) * 16 + h.val, by omega⟩ rfl).trans ?_
  exact stage_at 128 8 3 rfl rfl (colV V0) (res_main_v37 V0) (stage3 V0) _ _ _ _ (res_main_v39 V0)
    (res_main_v41 V0) rfl rfl _ _ _ b _ s

/-- After the stage at distance 16. -/
theorem stage5 (b : Fin 12) (P : Fin 32) (Q : Fin 2) (h : Fin 32) (s : Fin 5632) :
    res_main_v59 V0 (ix5 b P Q h s) = stages 5 (colV V0 b s) ((P.val * 2 + Q.val) * 32 + h.val) := by
  unfold res_main_v59
  refine (grouped_at 32 32 rfl _ _ b P Q h s ⟨(P.val * 2 + Q.val) * 32 + h.val, by omega⟩ rfl).trans ?_
  exact stage_at 64 16 4 rfl rfl (colV V0) (res_main_v48 V0) (stage4 V0) _ _ _ _ (res_main_v50 V0)
    (res_main_v52 V0) rfl rfl _ _ _ b _ s

/-- After the stage at distance 32. -/
theorem stage6 (b : Fin 12) (P : Fin 16) (Q : Fin 2) (h : Fin 64) (s : Fin 5632) :
    res_main_v70 V0 (ix5 b P Q h s) = stages 6 (colV V0 b s) ((P.val * 2 + Q.val) * 64 + h.val) := by
  unfold res_main_v70
  refine (grouped_at 16 64 rfl _ _ b P Q h s ⟨(P.val * 2 + Q.val) * 64 + h.val, by omega⟩ rfl).trans ?_
  exact stage_at 32 32 5 rfl rfl (colV V0) (res_main_v59 V0) (stage5 V0) _ _ _ _ (res_main_v61 V0)
    (res_main_v63 V0) rfl rfl _ _ _ b _ s

/-- After the stage at distance 64. -/
theorem stage7 (b : Fin 12) (P : Fin 8) (Q : Fin 2) (h : Fin 128) (s : Fin 5632) :
    res_main_v81 V0 (ix5 b P Q h s) = stages 7 (colV V0 b s) ((P.val * 2 + Q.val) * 128 + h.val) := by
  unfold res_main_v81
  refine (grouped_at 8 128 rfl _ _ b P Q h s ⟨(P.val * 2 + Q.val) * 128 + h.val, by omega⟩ rfl).trans ?_
  exact stage_at 16 64 6 rfl rfl (colV V0) (res_main_v70 V0) (stage6 V0) _ _ _ _ (res_main_v72 V0)
    (res_main_v74 V0) rfl rfl _ _ _ b _ s

/-- After the stage at distance 128. -/
theorem stage8 (b : Fin 12) (P : Fin 4) (Q : Fin 2) (h : Fin 256) (s : Fin 5632) :
    res_main_v92 V0 (ix5 b P Q h s) = stages 8 (colV V0 b s) ((P.val * 2 + Q.val) * 256 + h.val) := by
  unfold res_main_v92
  refine (grouped_at 4 256 rfl _ _ b P Q h s ⟨(P.val * 2 + Q.val) * 256 + h.val, by omega⟩ rfl).trans ?_
  exact stage_at 8 128 7 rfl rfl (colV V0) (res_main_v81 V0) (stage7 V0) _ _ _ _ (res_main_v83 V0)
    (res_main_v85 V0) rfl rfl _ _ _ b _ s

/-- After the stage at distance 256. -/
theorem stage9 (b : Fin 12) (P : Fin 2) (Q : Fin 2) (h : Fin 512) (s : Fin 5632) :
    res_main_v103 V0 (ix5 b P Q h s) = stages 9 (colV V0 b s) ((P.val * 2 + Q.val) * 512 + h.val) := by
  unfold res_main_v103
  refine (grouped_at 2 512 rfl _ _ b P Q h s ⟨(P.val * 2 + Q.val) * 512 + h.val, by omega⟩ rfl).trans ?_
  exact stage_at 4 256 8 rfl rfl (colV V0) (res_main_v92 V0) (stage8 V0) _ _ _ _ (res_main_v94 V0)
    (res_main_v96 V0) rfl rfl _ _ _ b _ s

/-- After the stage at distance 512. -/
theorem stage10 (b : Fin 12) (P : Fin 1) (Q : Fin 2) (h : Fin 1024) (s : Fin 5632) :
    res_main_v114 V0 (ix5 b P Q h s) = stages 10 (colV V0 b s) ((P.val * 2 + Q.val) * 1024 + h.val) := by
  unfold res_main_v114
  refine (grouped_at 1 1024 rfl _ _ b P Q h s ⟨(P.val * 2 + Q.val) * 1024 + h.val, by omega⟩ rfl).trans ?_
  exact stage_at 2 512 9 rfl rfl (colV V0) (res_main_v103 V0) (stage9 V0) _ _ _ _ (res_main_v105 V0)
    (res_main_v107 V0) rfl rfl _ _ _ b _ s

/-- The normalised values. -/
theorem v127_at (b : Fin 12) (g : Fin 16) (i : Fin 128) (s : Fin 5632) :
    res_main_v127 V0 (ix4 b g i s) = stages 11 (colV V0 b s) (128 * g.val + i.val) * (Cert.Words.norm : EReal) := by
  unfold res_main_v127
  refine (groups_at _ b g i s).trans ((normed_at _ b _ s).trans ?_)
  refine congrArg (· * (Cert.Words.norm : EReal)) ?_
  exact stage_at 1 1024 10 rfl rfl (colV V0) (res_main_v114 V0) (stage10 V0) _ _ _ _ (res_main_v116 V0) (res_main_v118 V0) rfl rfl _ _ _ b _ s

/-- The scales. -/
theorem v134_at (b : Fin 12) (g : Fin 16) (s : Fin 5632) :
    res_main_v134 V0 (ix3 b g s)
      = scaleOf (amp fun i => stages 11 (colV V0 b s) (128 * g.val + i) * (Cert.Words.norm : EReal)) := by
  unfold res_main_v134
  refine (scale_at _ b g s).trans (congrArg scaleOf ?_)
  unfold res_main_v129
  exact absmax_at _ _ b g s fun i => v127_at V0 b g i s

/-- The code of entry `d` of column `(b, s)`, as a real number. -/
def code (x : ℕ → EReal) (d : ℕ) : EReal :=
  clip7 (rnd (Ideal.div (stages 11 x d * (Cert.Words.norm : EReal))
    (scaleOf (amp fun i => stages 11 x (128 * (d / 128) + i) * (Cert.Words.norm : EReal)))))

/-- The nibbles. -/
theorem v146_at (b : Fin 12) (p : Fin 1024) (q : Fin 2) (s : Fin 5632) :
    res_main_v146 V0 (ix4 b p q s) = nib (code (colV V0 b s) (2 * p.val + q.val)) := by
  unfold res_main_v146
  refine (nib_at _ b p q s).trans (congrArg nib ?_)
  refine (quant_at _ _ b _ _ s).trans ?_
  rw [v127_at, v134_at, code]
  have := Nat.div_add_mod (2 * p.val + q.val) 128
  simp only [this]

/-- The packed codes: entry `p` of row `s` holds the codes of entries `2 p` and `2 p + 1` of the column. -/
theorem codes_result (b : Fin 12) (s : Fin 5632) (p : Fin 1024) :
    (transpose S12x5632x1024 [0, 2, 1] (trunci 8 (ori (shapeCast _ (extractStridedSlice S12x1024x1x5632 ![0, 0, 0, 0] (res_main_v146 V0)
        slices_S12x1024x2x5632_S12x1024x1x5632_0_0_0_0) shapeCasts_S12x1024x1x5632_S12x1024x5632)
      (Host.shli (shapeCast _ (extractStridedSlice S12x1024x1x5632 ![0, 0, 1, 0] (res_main_v146 V0)
        slices_S12x1024x2x5632_S12x1024x1x5632_0_0_1_0) shapeCasts_S12x1024x1x5632_S12x1024x5632)
        (broadcastInDim S12x1024x5632 ![] bcast_S_S12x1024x5632 (constantI S_ 32 4#32)))) natLt_8_32)
      transposes_S12x1024x5632_S12x5632x1024_0_2_1 : IVec S12x5632x1024 8) (ix3 b s p)
      = byteR (code (colV V0 b s) (2 * p.val)) (code (colV V0 b s) (2 * p.val + 1)) := by
  refine (transpose_apply _ _ _ _ (ix3 b p s) fun a => ?_).trans ?_
  · match a with
    | ⟨0, _⟩ => rfl
    | ⟨1, _⟩ => rfl
    | ⟨2, _⟩ => rfl
  refine (codes_at _ b p s).trans ?_
  rw [v146_at, v146_at]
  rfl

/-- The scales as they are returned. -/
theorem scales_result (b : Fin 12) (s : Fin 5632) (g : Fin 16) :
    (transpose S12x5632x16 [0, 2, 1] (res_main_v134 V0) transposes_S12x16x5632_S12x5632x16_0_2_1 : FVec Ideal S12x5632x16 .f32) (ix3 b s g)
      = scaleOf (amp fun i => stages 11 (colV V0 b s) (128 * g.val + i) * (Cert.Words.norm : EReal)) := by
  refine (transpose_apply _ _ _ _ (ix3 b g s) fun a => ?_).trans (v134_at V0 b g s)
  match a with
  | ⟨0, _⟩ => rfl
  | ⟨1, _⟩ => rfl
  | ⟨2, _⟩ => rfl

end Cert.RefSide

end

end
-- ==== Proof.Had.lean ====
module

public import proofs.«01_k».proof.Proof.Words
public import proofs.«01_k».proof.Proof.Gen.KernelIdeal

@[expose] public section

set_option maxRecDepth 16384

/-! # The rotation's matrix of signs -/

noncomputable section

namespace Cert.Rotation

open Idealize.ShloMosaic Cert.KernelIdeal Cert.KernelIdeal.Gen Cert.Hadamard

/-- Whether the entry of row `i`, column `j` is negative: the parity of the bits the two share. -/
def flips : ℕ → ℕ → ℕ → Bool
  | 0, _, _ => false
  | k + 1, i, j => xor (flips k i j) (i.testBit k && j.testBit k)

/-- The sign is minus one where the parity of the shared bits is odd. -/
theorem sgn_flips (n i j : ℕ) : sgn n i j = if flips n i j then -1 else 1 := by
  induction n with
  | zero => simp [sgn, flips]
  | succ k ih =>
    rw [sgn, Finset.prod_range_succ]
    change sgn k i j * _ = _
    rw [ih, flips]
    cases flips k i j <;> cases i.testBit k <;> cases j.testBit k <;> simp

/-- The row of the rotation that row `m` of the printed matrix holds: of each sixteen, the even rows then the odd ones. -/
def rowOf (m : ℕ) : ℕ := 16 * (m / 16) + if m % 16 < 8 then 2 * (m % 16) else 2 * (m % 16 - 8) + 1

end Cert.Rotation

end

end
-- ==== Proof.Agree.lean ====
module

public import proofs.«01_k».proof.Proof.BlockAt
public import proofs.«01_k».proof.Proof.Ref
public import proofs.«01_k».proof.Proof.Had
public import Mathlib.Tactic.IntervalCases

@[expose] public section

set_option maxRecDepth 16384

/-! # The kernel's block and the reference agree, column by column -/

noncomputable section

namespace Cert.Agree

open Idealize.ShloMosaic Cert.Hadamard Cert.Quantise Cert.KernelIdeal.Block Cert.RefSide Cert.Rotation

/-- Three stages over eight entries read only those eight. -/
theorem stages3_congr {f g : ℕ → EReal} (h : ∀ j < 8, f j = g j) (i : ℕ) (hi : i < 8) : stages 3 f i = stages 3 g i := by
  have h0 := h 0 (by omega)
  have h1 := h 1 (by omega)
  have h2 := h 2 (by omega)
  have h3 := h 3 (by omega)
  have h4 := h 4 (by omega)
  have h5 := h 5 (by omega)
  have h6 := h 6 (by omega)
  have h7 := h 7 (by omega)
  interval_cases i <;> simp [stages, Nat.testBit, h0, h1, h2, h3, h4, h5, h6, h7]

/-- The row of the rotation held by the row of a group's `t`-th value. -/
theorem rowOf_value (g t : ℕ) : rowOf (16 * g + 8 * (t % 2) + t % 16 / 2) = 16 * g + t % 16 := by
  unfold rowOf
  have h1 : (16 * g + 8 * (t % 2) + t % 16 / 2) / 16 = g := by omega
  have h2 : (16 * g + 8 * (t % 2) + t % 16 / 2) % 16 = 8 * (t % 2) + t % 16 / 2 := by omega
  have h3 : t % 16 % 2 = t % 2 := by omega
  rw [h1, h2]
  rcases (by omega : t % 2 = 0 ∨ t % 2 = 1) with h | h <;> rw [h] at h3 ⊢ <;> split <;> omega

/-- Column `s` of the `q`-th block of 512 columns. -/
def column (q : Fin 11) (s : Fin 512) : Fin 5632 := ⟨512 * q.val + s.val, by omega⟩

/-- The first operand's block is the signed rotation. -/
def IsRotation (sg : FVec Ideal Cert.KernelIdeal.S2048 .f32) (x0 : Vec Ideal Cert.KernelIdeal.S8x256x256 .bf16) : Prop :=
  ∀ (r : Fin 8) (p k : Fin 256), x0 (ix3 r p k)
    = (sgn 8 (rowOf p.val) k.val : EReal) * sg (ix1 ⟨128 * (k.val / 16) + 16 * r.val + k.val % 16, by omega⟩)

/-- The second operand's block is the `q`-th block of 512 columns of the weights of entry `b`. -/
def IsWeights (W : FVec Ideal Cert.KernelIdeal.S12x2048x5632 .bf16) (b : Fin 12) (q : Fin 11)
    (x1 : Vec Ideal Cert.KernelIdeal.S1x16x8x16x512 .bf16) : Prop :=
  ∀ (g : Fin 16) (r : Fin 8) (l : Fin 16) (s : Fin 512), x1 (ix5 0 g r l s)
    = W (ix3 b ⟨128 * g.val + 16 * r.val + l.val, by omega⟩ (column q s))

section
variable (W : FVec Ideal Cert.KernelIdeal.S12x2048x5632 .bf16) (sg : FVec Ideal Cert.KernelIdeal.S2048 .f32)
  (b : Fin 12) (q : Fin 11)
  (x0 : Vec Ideal Cert.KernelIdeal.S8x256x256 .bf16) (x1 : Vec Ideal Cert.KernelIdeal.S1x16x8x16x512 .bf16)
  (h0 : IsRotation sg x0) (h1 : IsWeights W b q x1)
include h0 h1

/-- One product of the block is the rotation's row against the signed column. -/
theorem slab_eq (r : Fin 8) (p : Fin 256) (s : Fin 512) :
    slabAt x0 x1 r p s = slabRow (col W sg b (column q s)) (rowOf p.val) r.val := by
  unfold slabAt slabRow
  rw [← Fin.sum_univ_eq_sum_range (fun k => (sgn 8 (rowOf p.val) k : EReal)
    * col W sg b (column q s) (128 * (k / 16) + 16 * r.val + k % 16)) 256]
  refine Finset.sum_congr rfl fun k _ => ?_
  rw [h0, h1, col, dif_pos (by omega), mul_assoc]
  exact congrArg _ (mul_comm _ _)

/-- A value of the block, before normalisation. -/
theorem val_eq (g : Fin 16) (s : Fin 512) (t : ℕ) (ht : t < 128) :
    valAt x0 x1 g s t = bySlabs (col W sg b (column q s)) (16 * g.val + t % 16) (t / 16) := by
  unfold valAt bySlabs
  refine stages3_congr (fun j hj => ?_) _ (by omega)
  rw [slab_eq W sg b q x0 x1 h0 h1]
  show slabRow _ (rowOf (16 * g.val + 8 * (t % 2) + t % 16 / 2)) (j % 8) = _
  rw [rowOf_value, Nat.mod_eq_of_lt hj]

/-- The transform of the signed column agrees with the block's value, up to the sign of an infinity. -/
theorem val_alike (g : Fin 16) (s : Fin 512) (t : ℕ) (ht : t < 128) :
    Alike (stages 11 (col W sg b (column q s)) (128 * g.val + t)) (valAt x0 x1 g s t) := by
  rw [val_eq W sg b q x0 x1 h0 h1 g s t ht]
  have h := alike (col W sg b (column q s)) (fun j hj => by rw [col, dif_neg (by omega)]) g.val (t / 16) (t % 16)
    g.isLt (by omega) (by omega)
  rwa [show 128 * g.val + 16 * (t / 16) + t % 16 = 128 * g.val + t by omega] at h

/-- The scales agree. -/
theorem scale_eq (g : Fin 16) (s : Fin 512) :
    scaleAt x0 x1 g s
      = scaleOf (amp fun i => stages 11 (col W sg b (column q s)) (128 * g.val + i) * (Cert.Words.norm : EReal)) := by
  unfold scaleAt
  rw [amp_mul Cert.Words.norm_pos fun i => stages 11 (col W sg b (column q s)) (128 * g.val + i),
    amp_congr fun i hi => val_alike W sg b q x0 x1 h0 h1 g s i hi]

/-- The value a code is the rounding of. -/
theorem code_eq (g : Fin 16) (s : Fin 512) (t : ℕ) (ht : t < 128) :
    clip7 (rnd (valAt x0 x1 g s t * Ideal.div (Cert.Words.norm : EReal) (scaleAt x0 x1 g s)))
      = code (col W sg b (column q s)) (128 * g.val + t) := by
  unfold code scaleAt
  rw [show (128 * g.val + t) / 128 = g.val by omega,
    quotient Cert.Words.norm_pos (f := fun i => stages 11 (col W sg b (column q s)) (128 * g.val + i))
      (fun i hi => val_alike W sg b q x0 x1 h0 h1 g s i hi) ht]

/-- The bytes agree. -/
theorem byte_eq (g : Fin 16) (s : Fin 512) (t : ℕ) (ht : t < 64) :
    byteAt x0 x1 g s t = byteR (code (col W sg b (column q s)) (128 * g.val + 2 * t))
      (code (col W sg b (column q s)) (128 * g.val + (2 * t + 1))) := by
  unfold byteAt
  rw [byte_agree, code_eq W sg b q x0 x1 h0 h1 g s _ (by omega), code_eq W sg b q x0 x1 h0 h1 g s _ (by omega)]

end

end Cert.Agree

end

end
-- ==== Proof.Entry.lean ====
module

public import proofs.«01_k».proof.Proof.Had
public import proofs.«01_k».proof.Proof.Gen.KernelIdeal.Frame
public import Idealize.ShloMosaic.Lib.Pointwise
public import Idealize.ShloMosaic.Lib.Claim
public import Mathlib.Tactic.Ring
public import Idealize.ShloMosaic.Lib.Pipeline.Value

@[expose] public section

set_option maxRecDepth 16384

/-! # What the host hands the kernel: the signed rotation and the weights by groups -/

noncomputable section

namespace Cert.KernelIdeal.Entry

open Cert.KernelIdeal Cert.KernelIdeal.Gen Idealize.ShloMosaic Idealize.ShloMosaic.TcCoe

/-- The rotation times the signs, slab by slab. -/
theorem rotation_at (h : FVec Ideal S256x256 .f32) (sg : FVec Ideal S2048 .f32) (r : Fin 8) (p k : Fin 256) :
    (truncf .bf16 (mulf (broadcastInDim S8x256x256 ![0, 1, 2] bcast_S1x256x256_S8x256x256_0_1_2
        (broadcastInDim S1x256x256 ![1, 2] bcast_S256x256_S1x256x256_1_2 h))
      (broadcastInDim S8x256x256 ![0, 1, 2] bcast_S8x1x256_S8x256x256_0_1_2
        (shapeCast S8x1x256 (transpose S8x16x16 [1, 0, 2] (shapeCast S16x8x16 sg shapeCasts_S2048_S16x8x16)
          transposes_S16x8x16_S8x16x16_1_0_2) shapeCasts_S8x16x16_S8x1x256))) bitsLt_bf16_f32 : FVec Ideal S8x256x256 .bf16) (ix3 r p k)
      = h (ix2 p k) * sg (ix1 ⟨128 * (k.val / 16) + 16 * r.val + k.val % 16, by omega⟩) := by
  pointwise []
  exact congrArg (fun j => h (ix2 p k) * sg (ix1 j)) (Fin.ext (by show k.val / 16 * 128 + r.val * 16 + k.val % 16 = 128 * (k.val / 16) + 16 * r.val + k.val % 16; omega))

/-- The weights' rows cut into groups, slabs and lanes. -/
theorem weights_at (W : FVec Ideal S12x2048x5632 .bf16) (b : Fin 12) (g : Fin 16) (r : Fin 8) (l : Fin 16) (s : Fin 5632) :
    shapeCast S12x16x8x16x5632 W shapeCasts_S12x2048x5632_S12x16x8x16x5632 (ix5 b g r l s)
      = W (ix3 b ⟨128 * g.val + 16 * r.val + l.val, by omega⟩ s) := by
  refine shapeCast_apply _ _ _ _ ?_
  rw [Shape.rowMajor_val_three, Shape.rowMajor_val_five]
  show (b.val * 2048 + (128 * g.val + 16 * r.val + l.val)) * 5632 + s.val
    = (((b.val * 16 + g.val) * 8 + r.val) * 16 + l.val) * 5632 + s.val
  ring

variable (m : (ℓ : Loc nD τ sig) → Buf (Elt Ideal) ℓ)

/-- The kernel's first operand. -/
theorem lhs_at (c : Dev nD) (r : Fin 8) (p k : Fin 256) :
    V m c main_v7 (ix3 r p k) = Ideal.ofBits .f32 (lit0 ⟨256 * p.val + k.val, by omega⟩)
      * (m ((c : Thread nD τ).loc main_arg1) : FVec Ideal S2048 .f32) (ix1 ⟨128 * (k.val / 16) + 16 * r.val + k.val % 16, by omega⟩) := by
  show StableHlo.after hostOps0 (fun b => m (c, b)) (Proc.devRef .tc main_v7) (ix3 r p k) = _
  after_results_simp
  refine (rotation_at _ _ r p k).trans ?_
  refine congrArg (fun j => Ideal.ofBits .f32 (lit0 j)
    * (m ((c : Thread nD τ).loc main_arg1) : FVec Ideal S2048 .f32) (ix1 ⟨128 * (k.val / 16) + 16 * r.val + k.val % 16, by omega⟩)) (Fin.ext ?_)
  rw [Shape.rowMajor_val_two]
  show p.val * 256 + k.val = 256 * p.val + k.val
  ring

/-- The kernel's second operand. -/
theorem rhs_at (c : Dev nD) (b : Fin 12) (g : Fin 16) (r : Fin 8) (l : Fin 16) (s : Fin 5632) :
    V m c main_v8 (ix5 b g r l s)
      = (m ((c : Thread nD τ).loc main_arg0) : FVec Ideal S12x2048x5632 .bf16) (ix3 b ⟨128 * g.val + 16 * r.val + l.val, by omega⟩ s) := by
  show StableHlo.after hostOps0 (fun b => m (c, b)) (Proc.devRef .tc main_v8) (ix5 b g r l s) = _
  after_results_simp
  exact weights_at _ b g r l s

end Cert.KernelIdeal.Entry

end

end
-- ==== Proof.Had0.lean ====
module

public import proofs.«01_k».proof.Proof.Had
public import Mathlib.Tactic.FinCases

@[expose] public section

/-! # Rows 0 to 63 of the printed matrix -/

namespace Cert.Rotation

open Idealize.ShloMosaic Cert.KernelIdeal Cert.KernelIdeal.Gen

set_option maxHeartbeats 0 in
/-- Rows 0 to 63 of the printed matrix, entry by entry: one or minus one as a 32-bit word. -/
theorem table0 (q : Fin 16) : ∀ (a : Fin 4) (b : Fin 256),
    lit0 ⟨256 * (4 * q.val + a.val) + b.val, by omega⟩
      = if flips 8 (rowOf (4 * q.val + a.val)) b.val then 0xBF800000#32 else 0x3F800000#32 := by
  fin_cases q <;> decide +kernel

end Cert.Rotation

end
-- ==== Proof.Had1.lean ====
module

public import proofs.«01_k».proof.Proof.Had
public import Mathlib.Tactic.FinCases

@[expose] public section

/-! # Rows 64 to 127 of the printed matrix -/

namespace Cert.Rotation

open Idealize.ShloMosaic Cert.KernelIdeal Cert.KernelIdeal.Gen

set_option maxHeartbeats 0 in
/-- Rows 64 to 127 of the printed matrix, entry by entry: one or minus one as a 32-bit word. -/
theorem table1 (q : Fin 16) : ∀ (a : Fin 4) (b : Fin 256),
    lit0 ⟨256 * (64 + 4 * q.val + a.val) + b.val, by omega⟩
      = if flips 8 (rowOf (64 + 4 * q.val + a.val)) b.val then 0xBF800000#32 else 0x3F800000#32 := by
  fin_cases q <;> decide +kernel

end Cert.Rotation

end
-- ==== Proof.Had2.lean ====
module

public import proofs.«01_k».proof.Proof.Had
public import Mathlib.Tactic.FinCases

@[expose] public section

/-! # Rows 128 to 191 of the printed matrix -/

namespace Cert.Rotation

open Idealize.ShloMosaic Cert.KernelIdeal Cert.KernelIdeal.Gen

set_option maxHeartbeats 0 in
/-- Rows 128 to 191 of the printed matrix, entry by entry: one or minus one as a 32-bit word. -/
theorem table2 (q : Fin 16) : ∀ (a : Fin 4) (b : Fin 256),
    lit0 ⟨256 * (128 + 4 * q.val + a.val) + b.val, by omega⟩
      = if flips 8 (rowOf (128 + 4 * q.val + a.val)) b.val then 0xBF800000#32 else 0x3F800000#32 := by
  fin_cases q <;> decide +kernel

end Cert.Rotation

end
-- ==== Proof.Had3.lean ====
module

public import proofs.«01_k».proof.Proof.Had
public import Mathlib.Tactic.FinCases

@[expose] public section

/-! # Rows 192 to 255 of the printed matrix -/

namespace Cert.Rotation

open Idealize.ShloMosaic Cert.KernelIdeal Cert.KernelIdeal.Gen

set_option maxHeartbeats 0 in
/-- Rows 192 to 255 of the printed matrix, entry by entry: one or minus one as a 32-bit word. -/
theorem table3 (q : Fin 16) : ∀ (a : Fin 4) (b : Fin 256),
    lit0 ⟨256 * (192 + 4 * q.val + a.val) + b.val, by omega⟩
      = if flips 8 (rowOf (192 + 4 * q.val + a.val)) b.val then 0xBF800000#32 else 0x3F800000#32 := by
  fin_cases q <;> decide +kernel

end Cert.Rotation

end
-- ==== Proof.Table.lean ====
module

public import proofs.«01_k».proof.Proof.Had0
public import proofs.«01_k».proof.Proof.Had1
public import proofs.«01_k».proof.Proof.Had2
public import proofs.«01_k».proof.Proof.Had3

@[expose] public section

set_option maxRecDepth 16384

/-! # The printed matrix is the rotation's matrix of signs -/

noncomputable section

namespace Cert.Rotation

open Idealize.ShloMosaic Cert.KernelIdeal Cert.KernelIdeal.Gen Cert.Hadamard

/-- The word of one. -/
theorem one_word : Ideal.ofBits .f32 0x3F800000#32 = ((1 : ℝ) : EReal) := by
  simp [Ideal.ofBits, Ideal.ieee, -EReal.coe_mul, -EReal.coe_neg]; norm_num

/-- The word of minus one. -/
theorem neg_one_word : Ideal.ofBits .f32 0xBF800000#32 = ((-1 : ℝ) : EReal) := by
  simp [Ideal.ofBits, Ideal.ieee, -EReal.coe_mul, -EReal.coe_neg]; norm_num

/-- Every row of the printed matrix, entry by entry. -/
theorem table (p k : Fin 256) :
    lit0 ⟨256 * p.val + k.val, by omega⟩ = if flips 8 (rowOf p.val) k.val then 0xBF800000#32 else 0x3F800000#32 := by
  have key : ∀ n : ℕ, (h : n < 256) → n = p.val → lit0 ⟨256 * n + k.val, by omega⟩
      = (if flips 8 (rowOf n) k.val then 0xBF800000#32 else 0x3F800000#32) →
      lit0 ⟨256 * p.val + k.val, by omega⟩ = if flips 8 (rowOf p.val) k.val then 0xBF800000#32 else 0x3F800000#32 := by
    intro n h e hn
    subst e
    exact hn
  have hp := p.isLt
  rcases (by omega : p.val < 64 ∨ (64 ≤ p.val ∧ p.val < 128) ∨ (128 ≤ p.val ∧ p.val < 192) ∨ 192 ≤ p.val) with h | h | h | h
  · exact key _ (by dsimp only; omega) (by dsimp only; omega) (table0 ⟨p.val / 4, by omega⟩ ⟨p.val % 4, by omega⟩ k)
  · exact key _ (by dsimp only; omega) (by dsimp only; omega) (table1 ⟨(p.val - 64) / 4, by omega⟩ ⟨(p.val - 64) % 4, by omega⟩ k)
  · exact key _ (by dsimp only; omega) (by dsimp only; omega) (table2 ⟨(p.val - 128) / 4, by omega⟩ ⟨(p.val - 128) % 4, by omega⟩ k)
  · exact key _ (by dsimp only; omega) (by dsimp only; omega) (table3 ⟨(p.val - 192) / 4, by omega⟩ ⟨(p.val - 192) % 4, by omega⟩ k)

/-- An entry of the printed matrix is the rotation's sign. -/
theorem entry_sign (p k : Fin 256) :
    Ideal.ofBits .f32 (lit0 ⟨256 * p.val + k.val, by omega⟩) = (sgn 8 (rowOf p.val) k.val : EReal) := by
  rw [table, sgn_flips]
  split
  · exact neg_one_word
  · exact one_word

end Cert.Rotation

end

end
-- ==== Proof.Value.lean ====
module

public import proofs.«01_k».proof.Proof.Agree
public import proofs.«01_k».proof.Proof.Entry
public import proofs.«01_k».proof.Proof.Table
public import Idealize.ShloMosaic.Lib.Pipeline.ValueKit.Geometry

@[expose] public section

set_option maxRecDepth 16384

/-! # The kernel's result arrays as functions of its arguments -/

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Hadamard Cert.Quantise Cert.RefSide Cert.KernelIdeal.Block

variable (m : (ℓ : Loc nD τ sig) → Buf (Elt Ideal) ℓ) (ρ : Dev nD → PrngReg)

/-- The weights as launched. -/
abbrev weights (c : Dev nD) : FVec Ideal S12x2048x5632 .bf16 := m ((c : Thread nD τ).loc main_arg0)

/-- The signs as launched. -/
abbrev signs (c : Dev nD) : FVec Ideal S2048 .f32 := m ((c : Thread nD τ).loc main_arg1)

/-- The packed codes. -/
def codes (c : Dev nD) : Vec Ideal S12x5632x1024 .i8 := fun i =>
  byteR (code (col (weights m c) (signs m c) (i 0) (i 1)) (2 * (i 2).val))
    (code (col (weights m c) (signs m c) (i 0) (i 1)) (2 * (i 2).val + 1))

/-- The scales, groups before columns. -/
def scales (c : Dev nD) : Vec Ideal S12x16x5632 .f32 := fun i =>
  scaleOf (amp fun t => stages 11 (col (weights m c) (signs m c) (i 0) (i 2)) (128 * (i 1).val + t) * (Cert.Words.norm : EReal))

/-! ## Where the blocks lie -/

/-- Every point reads the first operand whole. -/
theorem idx0 : ∀ t : Fin cfg0.N, win0_0.index t = ![0, 0, 0] := (by decide +kernel : ∀ t : Fin grid0.N, _)
/-- The second operand's block: one batch entry, 512 columns. -/
theorem idx1 : ∀ t : Fin cfg0.N, win0_1.index t = ![t.val / 11, 0, 0, 0, t.val % 11] := (by decide +kernel : ∀ t : Fin grid0.N, _)
/-- The codes' block: one batch entry, 512 columns. -/
theorem idx2 : ∀ t : Fin cfg0.N, win0_2.index t = ![t.val / 11, t.val % 11, 0] := (by decide +kernel : ∀ t : Fin grid0.N, _)
/-- The scales' block: one batch entry, 512 columns. -/
theorem idx3 : ∀ t : Fin cfg0.N, win0_3.index t = ![t.val / 11, 0, t.val % 11] := (by decide +kernel : ∀ t : Fin grid0.N, _)
/-- The grid has 132 points. -/
theorem pts (t : Fin cfg0.N) : t.val < 132 := t.isLt

/-- The batch entry of a grid point. -/
def batchOf (t : Fin cfg0.N) : Fin 12 := ⟨t.val / 11, by have := pts t; omega⟩
/-- The block of columns of a grid point. -/
def columnsOf (t : Fin cfg0.N) : Fin 11 := ⟨t.val % 11, by omega⟩

/-- The first operand's block is the signed rotation. -/
theorem iblk0_at (c : Dev nD) (t : Fin cfg0.N) :
    Cert.Agree.IsRotation (signs m c) (iblk m c 0 t) := by
  intro r p k
  rw [← Cert.Rotation.entry_sign]
  refine Eq.trans (congrArg (V m c main_v7) ?_) (Entry.lhs_at m c r p k)
  blk_ext [idx0]

/-- The second operand's block is the weights of one batch entry and 512 columns. -/
theorem iblk1_at (c : Dev nD) (t : Fin cfg0.N) :
    Cert.Agree.IsWeights (weights m c) (batchOf t) (columnsOf t) (iblk m c 1 t) := by
  intro g r l s
  refine Eq.trans (congrArg (V m c main_v8) ?_) (Entry.rhs_at m c (batchOf t) g r l (Cert.Agree.column (columnsOf t) s))
  unfold batchOf columnsOf Cert.Agree.column
  blk_ext [idx1]

/-! ## What each point leaves -/

/-- What a point leaves in the codes' block, from its two operands' blocks. -/
theorem out2_at (c : Dev nD) (i : grid0.Coords) (arg2 : Memref sig .tc .vmem S8x256x256 .bf16) (harg2 : arg2.IsWhole)
    (arg3 : Memref sig .tc .vmem S1x16x8x16x512 .bf16) (harg3 : arg3.IsWhole) (arg4 : Memref sig .tc .vmem S1x512x1024 .i8) (harg4 : arg4.IsWhole)
    (arg5 : Memref sig .tc .vmem S1x16x512 .f32) (harg5 : arg5.IsWhole) (arg6 : Memref sig .tc .vmem S8x256x256 .f32) (harg6 : arg6.IsWhole)
    (x0 : Vec Ideal S8x256x256 .bf16) (x1 : Vec Ideal S1x16x8x16x512 .bf16) (y : S1x512x1024.Idx) :
    out0_A_2 c i arg2 harg2 arg3 harg3 arg4 harg4 arg5 harg5 arg6 harg6 x0 x1 y = codeBlock x0 x1 y := by
  unfold out0_A_2
  rw [View.read_writes_junk_eq_canon]
  exact codes_at c i arg2 harg2 arg3 harg3 arg4 harg4 arg5 harg5 arg6 harg6 x0 x1 y

/-- What a point leaves in the scales' block, from its two operands' blocks. -/
theorem out3_at (c : Dev nD) (i : grid0.Coords) (arg2 : Memref sig .tc .vmem S8x256x256 .bf16) (harg2 : arg2.IsWhole)
    (arg3 : Memref sig .tc .vmem S1x16x8x16x512 .bf16) (harg3 : arg3.IsWhole) (arg4 : Memref sig .tc .vmem S1x512x1024 .i8) (harg4 : arg4.IsWhole)
    (arg5 : Memref sig .tc .vmem S1x16x512 .f32) (harg5 : arg5.IsWhole) (arg6 : Memref sig .tc .vmem S8x256x256 .f32) (harg6 : arg6.IsWhole)
    (x0 : Vec Ideal S8x256x256 .bf16) (x1 : Vec Ideal S1x16x8x16x512 .bf16) (y : S1x16x512.Idx) :
    out0_A_3 c i arg2 harg2 arg3 harg3 arg4 harg4 arg5 harg5 arg6 harg6 x0 x1 y = scaleBlock x0 x1 y := by
  unfold out0_A_3
  rw [View.read_writes_junk_eq_canon]
  exact scales_at c i arg2 harg2 arg3 harg3 arg4 harg4 arg5 harg5 arg6 harg6 x0 x1 y

/-- The codes' block after a point of the run. -/
theorem after2_at (c : Dev nD) (t : Fin cfg0.N) (y : S1x512x1024.Idx) :
    (outsAt0 m c t).1 y = codeBlock (iblk m c 0 t) (iblk m c 1 t) y := by
  have h : (outsAt0 m c t).1 = out0_A_2 c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) := by
    simp only [outsAt0]
  rw [h]
  exact out2_at c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) y

/-- The scales' block after a point of the run. -/
theorem after3_at (c : Dev nD) (t : Fin cfg0.N) (y : S1x16x512.Idx) :
    (outsAt0 m c t).2 y = scaleBlock (iblk m c 0 t) (iblk m c 1 t) y := by
  have h : (outsAt0 m c t).2 = out0_A_3 c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) := by
    simp only [outsAt0]
  rw [h]
  exact out3_at c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) y

/-- The codes' array after the run. -/
theorem final2 (c : Dev nD) : (dats m 0 c).arrAt 2 cfg0.N = codes m c := by
  refine (dats m 0 c).arrAt_eq_of_covers 2 _ (by decide +kernel) fun t hf y => ?_
  blk_simp
  rw [after0_2, after2_at]
  obtain ⟨z, s, j, rfl⟩ : ∃ (z : Fin 1) (s : Fin 512) (j : Fin 1024), y = ix3 z s j := ⟨y 0, y 1, y 2, eq_ix3 y⟩
  have hj := j.isLt
  have ht := pts t
  have he : (win0_2.blk t).view.emb (ix3 z s j)
      = (ix3 (batchOf t) (Cert.Agree.column (columnsOf t) s) j : S12x5632x1024.Idx) := by
    unfold batchOf columnsOf Cert.Agree.column
    blk_ext [idx2]
  rw [he]
  refine (Cert.Agree.byte_eq (weights m c) (signs m c) (batchOf t) (columnsOf t) _ _
    (iblk0_at m c t) (iblk1_at m c t) ⟨j.val / 64, by omega⟩ s (j.val % 64) (by omega)).trans ?_
  show byteR (code _ (128 * (j.val / 64) + 2 * (j.val % 64))) (code _ (128 * (j.val / 64) + (2 * (j.val % 64) + 1)))
    = byteR (code _ (2 * j.val)) (code _ (2 * j.val + 1))
  rw [show 128 * (j.val / 64) + 2 * (j.val % 64) = 2 * j.val by omega,
    show 128 * (j.val / 64) + (2 * (j.val % 64) + 1) = 2 * j.val + 1 by omega]
  rfl

/-- The scales' array after the run. -/
theorem final3 (c : Dev nD) : (dats m 0 c).arrAt 3 cfg0.N = scales m c := by
  refine (dats m 0 c).arrAt_eq_of_covers 3 _ (by decide +kernel) fun t hf y => ?_
  blk_simp
  rw [after0_3, after3_at]
  obtain ⟨z, g, s, rfl⟩ : ∃ (z : Fin 1) (g : Fin 16) (s : Fin 512), y = ix3 z g s := ⟨y 0, y 1, y 2, eq_ix3 y⟩
  have ht := pts t
  have he : (win0_3.blk t).view.emb (ix3 z g s)
      = (ix3 (batchOf t) g (Cert.Agree.column (columnsOf t) s) : S12x16x5632.Idx) := by
    unfold batchOf columnsOf Cert.Agree.column
    blk_ext [idx3]
  rw [he]
  exact Cert.Agree.scale_eq (weights m c) (signs m c) (batchOf t) (columnsOf t) _ _
    (iblk0_at m c t) (iblk1_at m c t) g s

/-- The host's transpose after the kernel. -/
theorem tail_scales (c : Dev nD) :
    Pipeline.afterTail₀ cfgs (dats m) 0 (V0 m) [hostOps1] c main_v10
      = transpose S12x5632x16 [0, 2, 1] (scales m c) transposes_S12x16x5632_S12x5632x16_0_2_1 := by
  unfold Pipeline.afterTail₀
  show StableHlo.after hostOps1 _ (Proc.devRef .tc main_v10) = _
  after_results_simp
  exact congrArg (fun X => transpose S12x5632x16 [0, 2, 1] X transposes_S12x16x5632_S12x5632x16_0_2_1)
    ((Pipeline.withArrays_arr _ (launch0.win.arr_inj) c _ _ 3).trans (final3 m c))

/-- The kernel's run: both results as functions of the arguments, and the arguments unchanged. -/
theorem run : θ_run defs (onTc (τ := τ) (main (F := Ideal))) ⟨m, fun _ => 0, ρ⟩ fun r => ∀ c : Dev nD,
      r.2.mem ((c : Thread nD τ).loc main_v9_0) = codes m c
      ∧ r.2.mem ((c : Thread nD τ).loc main_v10) = transpose S12x5632x16 [0, 2, 1] (scales m c) transposes_S12x16x5632_S12x5632x16_0_2_1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final2 m c),
      ((h c).2 main_v10 (Pipeline.mem_restRefs_of main_v10 (by decide) (by decide))).trans (tail_scales m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Cert.KernelIdeal.Value (codes scales weights signs)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
include h0 h1

/-- From equal arguments both programs rotate the same signed columns. -/
theorem column_eq (b : Fin 12) (s : Fin 5632) :
    Cert.RefSide.colV (StableHlo.launchContents m' c) b s = Cert.RefSide.col (weights m c) (signs m c) b s :=
  congrArg₂ (fun W sg => Cert.RefSide.col W sg b s) h0 h1

end

/-- The kernel and the reference end with the same codes and the same scales. -/
theorem algebraic : Cert.algebraic_KernelIdeal_ReferenceIdeal := by
  intro m g m' g' _ hagree
  refine ⟨fun c => codes m c, fun c => transpose Cert.KernelIdeal.S12x5632x16 [0, 2, 1] (scales m c)
    Cert.KernelIdeal.Gen.transposes_S12x16x5632_S12x5632x16_0_2_1, Cert.KernelIdeal.Value.run m g, ?_⟩
  refine (θ_run Cert.ReferenceIdeal.defs _ _).mono (fun r h c => ⟨(h c).1.trans ?_, (h c).2.1.trans ?_, (h c).2.2.1, (h c).2.2.2⟩)
    (Cert.ReferenceIdeal.Value.run m' g')
  · funext i
    obtain ⟨b, s, p, rfl⟩ : ∃ (b : Fin 12) (s : Fin 5632) (p : Fin 1024), i = ix3 b s p := ⟨i 0, i 1, i 2, eq_ix3 i⟩
    refine (Cert.RefSide.codes_result _ b s p).trans ?_
    rw [column_eq m m' c (hagree c).1 (hagree c).2]
    rfl
  · funext i
    obtain ⟨b, s, g, rfl⟩ : ∃ (b : Fin 12) (s : Fin 5632) (g : Fin 16), i = ix3 b s g := ⟨i 0, i 1, i 2, eq_ix3 i⟩
    refine (Cert.RefSide.scales_result _ b s g).trans ?_
    rw [column_eq m m' c (hagree c).1 (hagree c).2]
    refine Eq.symm ((transpose_apply _ _ _ _ (ix3 b g s) fun a => ?_).trans rfl)
    match a with
    | ⟨0, _⟩ => rfl
    | ⟨1, _⟩ => rfl
    | ⟨2, _⟩ => rfl

/-- The reference ends with its arguments as launched and every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
